-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg2ln1e4" .f32 0xBC935D8E#32 (((-(Real.log 10000)) * (1 / 512) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096 : Shape := ⟨2, ![4, 4096]⟩
abbrev S4x4096x1024 : Shape := ⟨3, ![4, 4096, 1024]⟩
abbrev S2x256x1024 : Shape := ⟨3, ![2, 256, 1024]⟩
abbrev S256x1024 : Shape := ⟨2, ![256, 1024]⟩
abbrev S2x4 : Shape := ⟨2, ![2, 4]⟩
abbrev S1x1024 : Shape := ⟨2, ![1, 1024]⟩
abbrev S16x1024 : Shape := ⟨2, ![16, 1024]⟩
abbrev S1x1 : Shape := ⟨2, ![1, 1]⟩
abbrev S_ : Shape := ⟨0, ![]⟩
abbrev S1x256x1024 : Shape := ⟨3, ![1, 256, 1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4x4096, .f32⟩
  | .hbm, ⟨1, _⟩ => ⟨S4x4096x1024, .f32⟩
  | .local _ .vmem, ⟨0, _⟩ => ⟨S2x256x1024, .f32⟩
  | .local _ .vmem, ⟨1, _⟩ => ⟨S256x1024, .f32⟩
  | .local _ .vmem, ⟨2, _⟩ => ⟨S256x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32_1 : BitVec 32 := 2#32
  let v9 : BitVec 1 := Scalar.cmpi .sge arg0 c2_i32_1
  let v10 : BitVec 32 := Scalar.extui v9
  let c0_i32_2 : BitVec 32 := 0#32
  let v11 : BitVec 1 := Scalar.cmpi .ne v10 c0_i32_2
  v11

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_41 : BitVec 32 := 0#32
  ![v0.toNat, 0]
def k0_off2 (i : grid0.Coords) : Fin 3 → Nat :=
  let c0_i32_40 : BitVec 32 := 0#32
  let arg0 : BitVec 32 := BitVec.ofNat 32 (i 0).val
  let c2_i32_38 : BitVec 32 := 2#32
  let v75 : BitVec 32 := Scalar.subi arg0 c2_i32_38
  let c256_i32_39 : BitVec 32 := 256#32
  let v76 : BitVec 32 := Scalar.muli v75 c256_i32_39
  let c0_i32_42 : BitVec 32 := 0#32
  ![0, v76.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_43 : BitVec 32 := 0#32
  let c0_i32_44 : BitVec 32 := 0#32
  ![v0.toNat, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c1_i32_48 : BitVec 32 := 1#32
  ![v0.toNat, 1]
def k0_off5 (i : grid0.Coords) : Fin 3 → Nat :=
  let c1_i32_47 : BitVec 32 := 1#32
  let arg0 : BitVec 32 := BitVec.ofNat 32 (i 0).val
  let c2_i32_45 : BitVec 32 := 2#32
  let v83 : BitVec 32 := Scalar.subi arg0 c2_i32_45
  let c256_i32_46 : BitVec 32 := 256#32
  let v84 : BitVec 32 := Scalar.muli v83 c256_i32_46
  let c0_i32_49 : BitVec 32 := 0#32
  ![1, v84.toNat, 0]
def k0_off6 (i : grid0.Coords) : Fin 2 → Nat :=
  let arg0 : BitVec 32 := BitVec.ofNat 32 (i 0).val
  let c2_i32 : BitVec 32 := 2#32
  let v0 : BitVec 32 := Scalar.remsi arg0 c2_i32
  let c2_i32_55 : BitVec 32 := 2#32
  ![v0.toNat, 2]
def k0_off7 (i : grid0.Coords) : Fin 3 → Nat :=
  let c2_i32_54 : BitVec 32 := 2#32
  let arg0 : BitVec 32 := BitVec.ofNat 32 (i 0).val
  let c2_i32_52 : BitVec 32 := 2#32
  let v91 : BitVec 32 := Scalar.subi arg0 c2_i32_52
  let c256_i32_53 : BitVec 32 := 256#32
  let v92 : BitVec 32 := Scalar.muli v91 c256_i32_53
  let c0_i32_56 : BitVec 32 := 0#32
  ![2, v92.toNat, 0]
def k0_off8 (i : grid0.Coords) : Fin 2 → Nat :=
  let arg0 : BitVec 32 := BitVec.ofNat 32 (i 0).val
  let c2_i32 : BitVec 32 := 2#32
  let v0 : BitVec 32 := Scalar.remsi arg0 c2_i32
  let c3_i32_62 : BitVec 32 := 3#32
  ![v0.toNat, 3]
def k0_off9 (i : grid0.Coords) : Fin 3 → Nat :=
  let c3_i32_61 : BitVec 32 := 3#32
  let arg0 : BitVec 32 := BitVec.ofNat 32 (i 0).val
  let c2_i32_59 : BitVec 32 := 2#32
  let v99 : BitVec 32 := Scalar.subi arg0 c2_i32_59
  let c256_i32_60 : BitVec 32 := 256#32
  let v100 : BitVec 32 := Scalar.muli v99 c256_i32_60
  let c0_i32_63 : BitVec 32 := 0#32
  ![3, v100.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v37 : Index := Scalar.indexCast v0
  let c0_10 : Index := 0#32
  let c0_11 : Index := 0#32
  ![v37.toNat, 0, 0]
def k0_off11 (i : grid0.Coords) : Fin 2 → Nat :=
  let arg0 : BitVec 32 := BitVec.ofNat 32 (i 0).val
  let c2_i32 : BitVec 32 := 2#32
  let v0 : BitVec 32 := Scalar.remsi arg0 c2_i32
  let c0_i32_16 : BitVec 32 := 0#32
  ![v0.toNat, 0]
def k0_off12 (i : grid0.Coords) : Fin 3 → Nat :=
  let c0_i32_15 : BitVec 32 := 0#32
  let arg0 : BitVec 32 := BitVec.ofNat 32 (i 0).val
  let c256_i32_14 : BitVec 32 := 256#32
  let v44 : BitVec 32 := Scalar.muli arg0 c256_i32_14
  let c0_i32_17 : BitVec 32 := 0#32
  ![0, v44.toNat, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_18 : BitVec 32 := 0#32
  let c0_i32_19 : BitVec 32 := 0#32
  ![v0.toNat, 0, 0]
def k0_off14 (i : grid0.Coords) : Fin 2 → Nat :=
  let arg0 : BitVec 32 := BitVec.ofNat 32 (i 0).val
  let c2_i32 : BitVec 32 := 2#32
  let v0 : BitVec 32 := Scalar.remsi arg0 c2_i32
  let c1_i32_22 : BitVec 32 := 1#32
  ![v0.toNat, 1]
def k0_off15 (i : grid0.Coords) : Fin 3 → Nat :=
  let c1_i32_21 : BitVec 32 := 1#32
  let arg0 : BitVec 32 := BitVec.ofNat 32 (i 0).val
  let c256_i32_20 : BitVec 32 := 256#32
  let v51 : BitVec 32 := Scalar.muli arg0 c256_i32_20
  let c0_i32_23 : BitVec 32 := 0#32
  ![1, v51.toNat, 0]
def k0_off16 (i : grid0.Coords) : Fin 2 → Nat :=
  let arg0 : BitVec 32 := BitVec.ofNat 32 (i 0).val
  let c2_i32 : BitVec 32 := 2#32
  let v0 : BitVec 32 := Scalar.remsi arg0 c2_i32
  let c2_i32_28 : BitVec 32 := 2#32
  ![v0.toNat, 2]
def k0_off17 (i : grid0.Coords) : Fin 3 → Nat :=
  let c2_i32_27 : BitVec 32 := 2#32
  let arg0 : BitVec 32 := BitVec.ofNat 32 (i 0).val
  let c256_i32_26 : BitVec 32 := 256#32
  let v58 : BitVec 32 := Scalar.muli arg0 c256_i32_26
  let c0_i32_29 : BitVec 32 := 0#32
  ![2, v58.toNat, 0]
def k0_off18 (i : grid0.Coords) : Fin 2 → Nat :=
  let arg0 : BitVec 32 := BitVec.ofNat 32 (i 0).val
  let c2_i32 : BitVec 32 := 2#32
  let v0 : BitVec 32 := Scalar.remsi arg0 c2_i32
  let c3_i32_33 : BitVec 32 := 3#32
  ![v0.toNat, 3]
def k0_off19 (i : grid0.Coords) : Fin 3 → Nat :=
  let c3_i32 : BitVec 32 := 3#32
  let arg0 : BitVec 32 := BitVec.ofNat 32 (i 0).val
  let c256_i32_32 : BitVec 32 := 256#32
  let v65 : BitVec 32 := Scalar.muli arg0 c256_i32_32
  let c0_i32_34 : BitVec 32 := 0#32
  ![3, v65.toNat, 0]
def k0_cond4 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_37 : BitVec 32 := 0#32
  let v74 : BitVec 1 := Scalar.cmpi .ne v73 c0_i32_37
  v74

def k0_off20 (i : grid0.Coords) : Fin 2 → Nat :=
  let c1_i32_41 : BitVec 32 := 1#32
  let arg0 : BitVec 32 := BitVec.ofNat 32 (i 0).val
  let c2_i32 : BitVec 32 := 2#32
  let v0 : BitVec 32 := Scalar.remsi arg0 c2_i32
  let v78 : BitVec 32 := Scalar.subi c1_i32_41 v0
  let c0_i32_43 : BitVec 32 := 0#32
  ![v78.toNat, 0]
def k0_off21 (i : grid0.Coords) : Fin 3 → Nat :=
  let c0_i32_42 : BitVec 32 := 0#32
  let arg0 : BitVec 32 := BitVec.ofNat 32 (i 0).val
  let c1_i32_39 : BitVec 32 := 1#32
  let v76 : BitVec 32 := Scalar.subi arg0 c1_i32_39
  let c256_i32_40 : BitVec 32 := 256#32
  let v77 : BitVec 32 := Scalar.muli v76 c256_i32_40
  let c0_i32_44 : BitVec 32 := 0#32
  ![0, v77.toNat, 0]
def k0_off22 (i : grid0.Coords) : Fin 3 → Nat :=
  let c1_i32_38 : BitVec 32 := 1#32
  let arg0 : BitVec 32 := BitVec.ofNat 32 (i 0).val
  let c2_i32 : BitVec 32 := 2#32
  let v0 : BitVec 32 := Scalar.remsi arg0 c2_i32
  let v75 : BitVec 32 := Scalar.subi c1_i32_38 v0
  let c0_i32_45 : BitVec 32 := 0#32
  let c0_i32_46 : BitVec 32 := 0#32
  ![v75.toNat, 0, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c0_i32_49 : BitVec 32 := 0#32
  ![v0.toNat, 0]
def k0_off24 (i : grid0.Coords) : Fin 3 → Nat :=
  let c0_i32_48 : BitVec 32 := 0#32
  let arg0 : BitVec 32 := BitVec.ofNat 32 (i 0).val
  let c256_i32_47 : BitVec 32 := 256#32
  let v85 : BitVec 32 := Scalar.muli arg0 c256_i32_47
  let c0_i32_50 : BitVec 32 := 0#32
  ![0, v85.toNat, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c0_i32_51 : BitVec 32 := 0#32
  let c0_i32_52 : BitVec 32 := 0#32
  ![v0.toNat, 0, 0]
def k0_off26 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_56 v0
  let c1_i32_58 : BitVec 32 := 1#32
  ![v95.toNat, 1]
def k0_off27 (i : grid0.Coords) : Fin 3 → Nat :=
  let c1_i32_57 : BitVec 32 := 1#32
  let arg0 : BitVec 32 := BitVec.ofNat 32 (i 0).val
  let c1_i32_54 : BitVec 32 := 1#32
  let v93 : BitVec 32 := Scalar.subi arg0 c1_i32_54
  let c256_i32_55 : BitVec 32 := 256#32
  let v94 : BitVec 32 := Scalar.muli v93 c256_i32_55
  let c0_i32_59 : BitVec 32 := 0#32
  ![1, v94.toNat, 0]
def k0_off28 (i : grid0.Coords) : Fin 2 → Nat :=
  let arg0 : BitVec 32 := BitVec.ofNat 32 (i 0).val
  let c2_i32 : BitVec 32 := 2#32
  let v0 : BitVec 32 := Scalar.remsi arg0 c2_i32
  let c1_i32_64 : BitVec 32 := 1#32
  ![v0.toNat, 1]
def k0_off29 (i : grid0.Coords) : Fin 3 → Nat :=
  let c1_i32_63 : BitVec 32 := 1#32
  let arg0 : BitVec 32 := BitVec.ofNat 32 (i 0).val
  let c256_i32_62 : BitVec 32 := 256#32
  let v102 : BitVec 32 := Scalar.muli arg0 c256_i32_62
  let c0_i32_65 : BitVec 32 := 0#32
  ![1, v102.toNat, 0]
def k0_off30 (i : grid0.Coords) : Fin 2 → Nat :=
  let c1_i32_71 : BitVec 32 := 1#32
  let arg0 : BitVec 32 := BitVec.ofNat 32 (i 0).val
  let c2_i32 : BitVec 32 := 2#32
  let v0 : BitVec 32 := Scalar.remsi arg0 c2_i32
  let v112 : BitVec 32 := Scalar.subi c1_i32_71 v0
  let c2_i32_73 : BitVec 32 := 2#32
  ![v112.toNat, 2]
def k0_off31 (i : grid0.Coords) : Fin 3 → Nat :=
  let c2_i32_72 : BitVec 32 := 2#32
  let arg0 : BitVec 32 := BitVec.ofNat 32 (i 0).val
  let c1_i32_69 : BitVec 32 := 1#32
  let v110 : BitVec 32 := Scalar.subi arg0 c1_i32_69
  let c256_i32_70 : BitVec 32 := 256#32
  let v111 : BitVec 32 := Scalar.muli v110 c256_i32_70
  let c0_i32_74 : BitVec 32 := 0#32
  ![2, v111.toNat, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c2_i32_79 : BitVec 32 := 2#32
  ![v0.toNat, 2]
def k0_off33 (i : grid0.Coords) : Fin 3 → Nat :=
  let c2_i32_78 : BitVec 32 := 2#32
  let arg0 : BitVec 32 := BitVec.ofNat 32 (i 0).val
  let c256_i32_77 : BitVec 32 := 256#32
  let v119 : BitVec 32 := Scalar.muli arg0 c256_i32_77
  let c0_i32_80 : BitVec 32 := 0#32
  ![2, v119.toNat, 0]
def k0_off34 (i : grid0.Coords) : Fin 2 → Nat :=
  let c1_i32_86 : BitVec 32 := 1#32
  let arg0 : BitVec 32 := BitVec.ofNat 32 (i 0).val
  let c2_i32 : BitVec 32 := 2#32
  let v0 : BitVec 32 := Scalar.remsi arg0 c2_i32
  let v129 : BitVec 32 := Scalar.subi c1_i32_86 v0
  let c3_i32_88 : BitVec 32 := 3#32
  ![v129.toNat, 3]
def k0_off35 (i : grid0.Coords) : Fin 3 → Nat :=
  let c3_i32_87 : BitVec 32 := 3#32
  let arg0 : BitVec 32 := BitVec.ofNat 32 (i 0).val
  let c1_i32_84 : BitVec 32 := 1#32
  let v127 : BitVec 32 := Scalar.subi arg0 c1_i32_84
  let c256_i32_85 : BitVec 32 := 256#32
  let v128 : BitVec 32 := Scalar.muli v127 c256_i32_85
  let c0_i32_89 : BitVec 32 := 0#32
  ![3, v128.toNat, 0]
def k0_off36 (i : grid0.Coords) : Fin 2 → Nat :=
  let arg0 : BitVec 32 := BitVec.ofNat 32 (i 0).val
  let c2_i32 : BitVec 32 := 2#32
  let v0 : BitVec 32 := Scalar.remsi arg0 c2_i32
  let c3_i32_94 : BitVec 32 := 3#32
  ![v0.toNat, 3]
def k0_off37 (i : grid0.Coords) : Fin 3 → Nat :=
  let c3_i32_93 : BitVec 32 := 3#32
  let arg0 : BitVec 32 := BitVec.ofNat 32 (i 0).val
  let c256_i32_92 : BitVec 32 := 256#32
  let v136 : BitVec 32 := Scalar.muli arg0 c256_i32_92
  let c0_i32_95 : BitVec 32 := 0#32
  ![3, v136.toNat, 0]
-- ==== KernelIdeal.lean ====
variable {F : FTy → Type} [FloatOps F] [Named F]
def κ : String → Option EReal := fun
  | "neg2ln1e4" => some (((-(Real.log 10000)) * (1 / 512) : ℝ) : EReal)
  | _ => none
-- ==== ReferenceIdeal.lean ====
abbrev S4x4096 : Shape := ⟨2, ![4, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S_ : Shape := ⟨0, ![]⟩
abbrev S4096x1024 : Shape := ⟨2, ![4096, 1024]⟩
abbrev S4095x1024 : Shape := ⟨2, ![4095, 1024]⟩
abbrev S1x4096 : Shape := ⟨2, ![1, 4096]⟩
abbrev S1x1x1x4096 : Shape := ⟨4, ![1, 1, 1, 4096]⟩
abbrev S4x1x1x4096 : Shape := ⟨4, ![4, 1, 1, 4096]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4096x1, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1x1024, .i32⟩
  | .hbm, ⟨22, _⟩ => ⟨S_, .i32⟩
  | .hbm, ⟨23, _⟩ => ⟨S1x1024, .i32⟩
  | .hbm, ⟨24, _⟩ => ⟨S1x1024, .i1⟩
  | .hbm, ⟨25, _⟩ => ⟨S4096x1024, .f32⟩
  | .hbm, ⟨26, _⟩ => ⟨S4096x1024, .f32⟩
  | .hbm, ⟨27, _⟩ => ⟨S4096x1024, .i1⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S4095x1024, .f32⟩
  | .hbm, ⟨32, _⟩ => ⟨S4096x1024, .f32⟩
  | .hbm, ⟨33, _⟩ => ⟨S4096, .i32⟩
  | .hbm, ⟨34, _⟩ => ⟨S1x4096, .i32⟩
  | .hbm, ⟨35, _⟩ => ⟨S1x1x1x4096, .i32⟩
  | .hbm, ⟨36, _⟩ => ⟨S4x1x1x4096, .i32⟩
  | .hbm, ⟨37, _⟩ => ⟨S4x4096, .i32⟩
  | .hbm, ⟨38, _⟩ => ⟨S_, .i32⟩
  | .hbm, ⟨39, _⟩ => ⟨S4x4096, .i32⟩
  | .hbm, ⟨40, _⟩ => ⟨S4x4096, .i1⟩
  | .hbm, ⟨41, _⟩ => ⟨S_, .i32⟩
  | .hbm, ⟨42, _⟩ => ⟨S4x4096, .i32⟩
  | .hbm, ⟨43, _⟩ => ⟨S4x4096, .i32⟩
  | .hbm, ⟨44, _⟩ => ⟨S4x4096, .i32⟩
  | .hbm, ⟨45, _⟩ => ⟨S4x4096x1, .i32⟩
  | .hbm, ⟨46, _⟩ => ⟨S1, .i32⟩
  | .hbm, ⟨47, _⟩ => ⟨S_, .i32⟩
  | .hbm, ⟨48, _⟩ => ⟨S4x4096x1, .i32⟩
  | .hbm, ⟨49, _⟩ => ⟨S4x4096x1, .i1⟩
  | .hbm, ⟨50, _⟩ => ⟨S1x1x1, .i32⟩
  | .hbm, ⟨51, _⟩ => ⟨S4x4096x1, .i32⟩
  | .hbm, ⟨52, _⟩ => ⟨S4x4096x1, .i1⟩
  | .hbm, ⟨53, _⟩ => ⟨S4x4096x1, .i1⟩
  | .hbm, ⟨54, _⟩ => ⟨S_, .i1⟩
  | .hbm, ⟨55, _⟩ => ⟨S4x4096, .i1⟩
  | .hbm, ⟨56, _⟩ => ⟨S4x4096x1024, .f32⟩
  | .hbm, ⟨57, _⟩ => ⟨S4x4096x1024, .i1⟩
  | .hbm, ⟨58, _⟩ => ⟨S_, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1024, .f32⟩
  | .hbm, ⟨63, _⟩ => ⟨S4x4096x1024, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩

abbrev nD : Nat := 1
abbrev τ : Topo := Topo.v7x

variable {F : FTy → Type} [FloatOps F]
-- ==== Proof.Geom.lean ====
/-
  The kernel's own names: which piece of the output, which slot of the staging buffer and which completion cell each
  slice of the body is, at every point of the grid.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The output's pieces, the staging buffer's slots and the cells -/

/-- The output, whole. -/
abbrev outM : Memref sig .tc .hbm S4x4096x1024 .f32 := Memref.whole main_v0
/-- The staging buffer of two tiles, whole. -/
abbrev bufM : Memref sig .tc .vmem S2x256x1024 .f32 := Memref.whole cc0_scratch0
/-- The table of sines, whole. -/
abbrev sinM : Memref sig .tc .vmem S256x1024 .f32 := Memref.whole cc0_scratch1
/-- The table of cosines, whole. -/
abbrev cosM : Memref sig .tc .vmem S256x1024 .f32 := Memref.whole cc0_scratch2

/-- Where tile `u` of batch row `b` begins in the output. -/
abbrev pieceOff (b : Fin 4) (u : Fin 16) : Fin 3 → Nat := ![b.val, 256 * u.val, 0]
theorem pieceOff_inb (b : Fin 4) (u : Fin 16) : ∀ a, pieceOff b u a + S1x256x1024.size a ≤ S4x4096x1024.size a := by
  have := b.isLt; have := u.isLt; intro a; fin_cases a
  · show b.val + 1 ≤ 4; omega
  · show 256 * u.val + 256 ≤ 4096; omega
  · show 0 + 1024 ≤ 1024; omega
/-- Where slot `s` begins in the staging buffer. -/
abbrev slotOff (s : Fin 2) : Fin 3 → Nat := ![s.val, 0, 0]
theorem slotOff_inb (s : Fin 2) : ∀ a, slotOff s a + S1x256x1024.size a ≤ S2x256x1024.size a := by
  have := s.isLt; intro a; fin_cases a
  · show s.val + 1 ≤ 2; omega
  · show 0 + 256 ≤ 256; omega
  · show 0 + 1024 ≤ 1024; omega
/-- Where the cell of slot `s` and batch row `b` stands in the array of cells. -/
abbrev semOff (s : Fin 2) (b : Fin 4) : Fin 2 → Nat := ![s.val, b.val]
theorem semOff_inb (s : Fin 2) (b : Fin 4) : ∀ a, semOff s b a + S1x1.size a ≤ S2x4.size a := by
  have := s.isLt; have := b.isLt; intro a; fin_cases a
  · show s.val + 1 ≤ 2; omega
  · show b.val + 1 ≤ 4; omega

/-- Tile `u` of batch row `b` of the output, as the body slices and squeezes it. -/
def piece (b : Fin 4) (u : Fin 16) : Memref sig .tc .hbm S256x1024 .f32 :=
  (outM.slice (Rect.unit (s := S4x4096x1024) (pieceOff b u) S1x256x1024.size (pieceOff_inb b u)) (fun _ => rfl)).squeeze S256x1024 squeezes_S1x256x1024_S256x1024
/-- Slot `s` of the staging buffer, as the body slices and squeezes it. -/
def rslot (s : Fin 2) : Memref sig .tc .vmem S256x1024 .f32 :=
  (bufM.slice (Rect.unit (s := S2x256x1024) (slotOff s) S1x256x1024.size (slotOff_inb s)) (fun _ => rfl)).squeeze S256x1024 squeezes_S1x256x1024_S256x1024
/-- The completion cell of slot `s` and batch row `b`. -/
def csm (s : Fin 2) (b : Fin 4) : DmaSems sig S_ :=
  (cc0_scratch3.slice (Rect.unit (s := S2x4) (semOff s b) S1x1.size (semOff_inb s b))).squeeze S_ squeezes_S1x1_S_

instance (s : Fin 2) : ClosedOff (slotOff s) := ⟨slotOff s, rfl⟩
instance (b : Fin 4) (u : Fin 16) : ClosedOff (pieceOff b u) := ⟨pieceOff b u, rfl⟩

/-! ## The grid's points, the conditions and the offsets in closed form -/

/-- A point's only coordinate is its number. -/
theorem coords_val : ∀ t : Fin grid0.N, (grid0.coords t 0).val = t.val := by decide +kernel
theorem lt16 (t : Fin grid0.N) : t.val < 16 := Nat.lt_of_lt_of_eq t.isLt N_0

/-- The condition under which the tables are built: the first point. -/
abbrev condB (i : grid0.Coords) : Prop :=
  Scalar.cmpi .ne (Scalar.extui (Scalar.cmpi .eq (BitVec.ofNat 32 (i 0).val) 0#32) : BitVec 32) 0#32 = 1#1
theorem condB_iff : ∀ t : Fin grid0.N, condB (grid0.coords t) ↔ t.val = 0 := by decide +kernel
theorem cond2_iff : ∀ t : Fin grid0.N, k0_cond2 (grid0.coords t) = 1#1 ↔ 2 ≤ t.val := by decide +kernel
theorem cond4_iff : ∀ t : Fin grid0.N, k0_cond4 (grid0.coords t) = 1#1 ↔ t.val = 15 := by decide +kernel

theorem sl_val (k : ℕ) : (Ring.sl 2 k).val = k % 2 := by simp [Ring.sl, Fin.ofNat]

/-- The tile retired before point `t`'s store, in batch rows 0 to 3. -/
theorem waited_eq : ∀ t : Fin grid0.N, 2 ≤ t.val →
    k0_off2 (grid0.coords t) = pieceOff 0 (Ring.bk 16 (t.val - 2)) ∧ k0_off5 (grid0.coords t) = pieceOff 1 (Ring.bk 16 (t.val - 2))
      ∧ k0_off7 (grid0.coords t) = pieceOff 2 (Ring.bk 16 (t.val - 2)) ∧ k0_off9 (grid0.coords t) = pieceOff 3 (Ring.bk 16 (t.val - 2)) := by decide +kernel
/-- The tile before the last, retired at the last point, in batch rows 0 to 3. -/
theorem drained_eq : ∀ t : Fin grid0.N, t.val = 15 →
    k0_off21 (grid0.coords t) = pieceOff 0 (Ring.bk 16 (t.val - 1)) ∧ k0_off27 (grid0.coords t) = pieceOff 1 (Ring.bk 16 (t.val - 1))
      ∧ k0_off31 (grid0.coords t) = pieceOff 2 (Ring.bk 16 (t.val - 1)) ∧ k0_off35 (grid0.coords t) = pieceOff 3 (Ring.bk 16 (t.val - 1)) := by decide +kernel
/-- Point `t`'s own tile in batch rows 0 to 3, as issued and as retired by the drain. -/
theorem issued_eq : ∀ t : Fin grid0.N,
    k0_off12 (grid0.coords t) = pieceOff 0 (Ring.bk 16 t.val) ∧ k0_off15 (grid0.coords t) = pieceOff 1 (Ring.bk 16 t.val)
      ∧ k0_off17 (grid0.coords t) = pieceOff 2 (Ring.bk 16 t.val) ∧ k0_off19 (grid0.coords t) = pieceOff 3 (Ring.bk 16 t.val)
      ∧ k0_off24 (grid0.coords t) = pieceOff 0 (Ring.bk 16 t.val) ∧ k0_off29 (grid0.coords t) = pieceOff 1 (Ring.bk 16 t.val)
      ∧ k0_off33 (grid0.coords t) = pieceOff 2 (Ring.bk 16 t.val) ∧ k0_off37 (grid0.coords t) = pieceOff 3 (Ring.bk 16 t.val) := by decide +kernel
/-- Point `t`'s own slot, wherever the body slices it. -/
theorem slot_eq : ∀ t : Fin grid0.N,
    k0_off3 (grid0.coords t) = slotOff (Ring.sl 2 t.val) ∧ k0_off10 (grid0.coords t) = slotOff (Ring.sl 2 t.val)
      ∧ k0_off13 (grid0.coords t) = slotOff (Ring.sl 2 t.val) ∧ k0_off25 (grid0.coords t) = slotOff (Ring.sl 2 t.val)
      ∧ k0_off22 (grid0.coords t) = slotOff (Ring.sl 2 (t.val + 1)) := by decide +kernel
/-- Point `t`'s own slot's cells, wherever the body slices them. -/
theorem cell_eq : ∀ t : Fin grid0.N,
    (k0_off1 (grid0.coords t) = semOff (Ring.sl 2 t.val) 0 ∧ k0_off4 (grid0.coords t) = semOff (Ring.sl 2 t.val) 1
      ∧ k0_off6 (grid0.coords t) = semOff (Ring.sl 2 t.val) 2 ∧ k0_off8 (grid0.coords t) = semOff (Ring.sl 2 t.val) 3)
    ∧ (k0_off11 (grid0.coords t) = semOff (Ring.sl 2 t.val) 0 ∧ k0_off14 (grid0.coords t) = semOff (Ring.sl 2 t.val) 1
      ∧ k0_off16 (grid0.coords t) = semOff (Ring.sl 2 t.val) 2 ∧ k0_off18 (grid0.coords t) = semOff (Ring.sl 2 t.val) 3)
    ∧ (k0_off23 (grid0.coords t) = semOff (Ring.sl 2 t.val) 0 ∧ k0_off28 (grid0.coords t) = semOff (Ring.sl 2 t.val) 1
      ∧ k0_off32 (grid0.coords t) = semOff (Ring.sl 2 t.val) 2 ∧ k0_off36 (grid0.coords t) = semOff (Ring.sl 2 t.val) 3)
    ∧ (k0_off20 (grid0.coords t) = semOff (Ring.sl 2 (t.val + 1)) 0 ∧ k0_off26 (grid0.coords t) = semOff (Ring.sl 2 (t.val + 1)) 1
      ∧ k0_off30 (grid0.coords t) = semOff (Ring.sl 2 (t.val + 1)) 2 ∧ k0_off34 (grid0.coords t) = semOff (Ring.sl 2 (t.val + 1)) 3) := by decide +kernel

/-- The slot's window at point `t`, for the store and the load through the whole buffer. -/
instance (priority := high) (t : Fin grid0.N) : ClosedOff (k0_off10 (grid0.coords t)) := ⟨slotOff (Ring.sl 2 t.val), (slot_eq t).2.1⟩

/-! ## The canonical-name equations: the body's slices are `piece`, `rslot` and `csm` -/

section Canon

private theorem csm_congr {off : Fin 2 → Nat} {s : Fin 2} {b : Fin 4} (e : off = semOff s b) (hh) :
    (cc0_scratch3.slice (Rect.unit (s := S2x4) off S1x1.size hh)).squeeze S_ squeezes_S1x1_S_ = csm s b :=
  congrArg (fun A : DmaSems sig S1x1 => A.squeeze S_ squeezes_S1x1_S_) (SemArray.slice_unit_congr _ e _ _)
private theorem rslot_congr {off : Fin 3 → Nat} {s : Fin 2} (e : off = slotOff s) (hh hs) :
    (bufM.slice (Rect.unit (s := S2x256x1024) off S1x256x1024.size hh) hs).squeeze S256x1024 squeezes_S1x256x1024_S256x1024 = rslot s :=
  congrArg (fun M : Memref sig .tc .vmem S1x256x1024 .f32 => M.squeeze S256x1024 squeezes_S1x256x1024_S256x1024) (Memref.slice_unit_congr _ e _ _ _ _)
private theorem piece_congr {off : Fin 3 → Nat} {b : Fin 4} {u : Fin 16} (e : off = pieceOff b u) (hh hs) :
    (outM.slice (Rect.unit (s := S4x4096x1024) off S1x256x1024.size hh) hs).squeeze S256x1024 squeezes_S1x256x1024_S256x1024 = piece b u :=
  congrArg (fun M : Memref sig .tc .hbm S1x256x1024 .f32 => M.squeeze S256x1024 squeezes_S1x256x1024_S256x1024) (Memref.slice_unit_congr _ e _ _ _ _)

/-! The cells: those waited before the store, those the copies are issued on, those the drain waits. -/
@[sl_canon] theorem sem1_canon (t : Fin grid0.N) (hh) :
    (cc0_scratch3.slice (Rect.unit (s := S2x4) (k0_off1 (grid0.coords t)) S1x1.size hh)).squeeze S_ squeezes_S1x1_S_ = csm (Ring.sl 2 t.val) 0 := csm_congr (cell_eq t).1.1 _
@[sl_canon] theorem sem4_canon (t : Fin grid0.N) (hh) :
    (cc0_scratch3.slice (Rect.unit (s := S2x4) (k0_off4 (grid0.coords t)) S1x1.size hh)).squeeze S_ squeezes_S1x1_S_ = csm (Ring.sl 2 t.val) 1 := csm_congr (cell_eq t).1.2.1 _
@[sl_canon] theorem sem6_canon (t : Fin grid0.N) (hh) :
    (cc0_scratch3.slice (Rect.unit (s := S2x4) (k0_off6 (grid0.coords t)) S1x1.size hh)).squeeze S_ squeezes_S1x1_S_ = csm (Ring.sl 2 t.val) 2 := csm_congr (cell_eq t).1.2.2.1 _
@[sl_canon] theorem sem8_canon (t : Fin grid0.N) (hh) :
    (cc0_scratch3.slice (Rect.unit (s := S2x4) (k0_off8 (grid0.coords t)) S1x1.size hh)).squeeze S_ squeezes_S1x1_S_ = csm (Ring.sl 2 t.val) 3 := csm_congr (cell_eq t).1.2.2.2 _
@[sl_canon] theorem sem11_canon (t : Fin grid0.N) (hh) :
    (cc0_scratch3.slice (Rect.unit (s := S2x4) (k0_off11 (grid0.coords t)) S1x1.size hh)).squeeze S_ squeezes_S1x1_S_ = csm (Ring.sl 2 t.val) 0 := csm_congr (cell_eq t).2.1.1 _
@[sl_canon] theorem sem14_canon (t : Fin grid0.N) (hh) :
    (cc0_scratch3.slice (Rect.unit (s := S2x4) (k0_off14 (grid0.coords t)) S1x1.size hh)).squeeze S_ squeezes_S1x1_S_ = csm (Ring.sl 2 t.val) 1 := csm_congr (cell_eq t).2.1.2.1 _
@[sl_canon] theorem sem16_canon (t : Fin grid0.N) (hh) :
    (cc0_scratch3.slice (Rect.unit (s := S2x4) (k0_off16 (grid0.coords t)) S1x1.size hh)).squeeze S_ squeezes_S1x1_S_ = csm (Ring.sl 2 t.val) 2 := csm_congr (cell_eq t).2.1.2.2.1 _
@[sl_canon] theorem sem18_canon (t : Fin grid0.N) (hh) :
    (cc0_scratch3.slice (Rect.unit (s := S2x4) (k0_off18 (grid0.coords t)) S1x1.size hh)).squeeze S_ squeezes_S1x1_S_ = csm (Ring.sl 2 t.val) 3 := csm_congr (cell_eq t).2.1.2.2.2 _
@[sl_canon] theorem sem23_canon (t : Fin grid0.N) (hh) :
    (cc0_scratch3.slice (Rect.unit (s := S2x4) (k0_off23 (grid0.coords t)) S1x1.size hh)).squeeze S_ squeezes_S1x1_S_ = csm (Ring.sl 2 t.val) 0 := csm_congr (cell_eq t).2.2.1.1 _
@[sl_canon] theorem sem28_canon (t : Fin grid0.N) (hh) :
    (cc0_scratch3.slice (Rect.unit (s := S2x4) (k0_off28 (grid0.coords t)) S1x1.size hh)).squeeze S_ squeezes_S1x1_S_ = csm (Ring.sl 2 t.val) 1 := csm_congr (cell_eq t).2.2.1.2.1 _
@[sl_canon] theorem sem32_canon (t : Fin grid0.N) (hh) :
    (cc0_scratch3.slice (Rect.unit (s := S2x4) (k0_off32 (grid0.coords t)) S1x1.size hh)).squeeze S_ squeezes_S1x1_S_ = csm (Ring.sl 2 t.val) 2 := csm_congr (cell_eq t).2.2.1.2.2.1 _
@[sl_canon] theorem sem36_canon (t : Fin grid0.N) (hh) :
    (cc0_scratch3.slice (Rect.unit (s := S2x4) (k0_off36 (grid0.coords t)) S1x1.size hh)).squeeze S_ squeezes_S1x1_S_ = csm (Ring.sl 2 t.val) 3 := csm_congr (cell_eq t).2.2.1.2.2.2 _
@[sl_canon] theorem sem20_canon (t : Fin grid0.N) (hh) :
    (cc0_scratch3.slice (Rect.unit (s := S2x4) (k0_off20 (grid0.coords t)) S1x1.size hh)).squeeze S_ squeezes_S1x1_S_ = csm (Ring.sl 2 (t.val + 1)) 0 := csm_congr (cell_eq t).2.2.2.1 _
@[sl_canon] theorem sem26_canon (t : Fin grid0.N) (hh) :
    (cc0_scratch3.slice (Rect.unit (s := S2x4) (k0_off26 (grid0.coords t)) S1x1.size hh)).squeeze S_ squeezes_S1x1_S_ = csm (Ring.sl 2 (t.val + 1)) 1 := csm_congr (cell_eq t).2.2.2.2.1 _
@[sl_canon] theorem sem30_canon (t : Fin grid0.N) (hh) :
    (cc0_scratch3.slice (Rect.unit (s := S2x4) (k0_off30 (grid0.coords t)) S1x1.size hh)).squeeze S_ squeezes_S1x1_S_ = csm (Ring.sl 2 (t.val + 1)) 2 := csm_congr (cell_eq t).2.2.2.2.2.1 _
@[sl_canon] theorem sem34_canon (t : Fin grid0.N) (hh) :
    (cc0_scratch3.slice (Rect.unit (s := S2x4) (k0_off34 (grid0.coords t)) S1x1.size hh)).squeeze S_ squeezes_S1x1_S_ = csm (Ring.sl 2 (t.val + 1)) 3 := csm_congr (cell_eq t).2.2.2.2.2.2 _

/-! The slots. -/
@[sl_canon] theorem slot3_canon (t : Fin grid0.N) (hh hs) :
    (bufM.slice (Rect.unit (s := S2x256x1024) (k0_off3 (grid0.coords t)) S1x256x1024.size hh) hs).squeeze S256x1024 squeezes_S1x256x1024_S256x1024 = rslot (Ring.sl 2 t.val) := rslot_congr (slot_eq t).1 _ _
@[sl_canon] theorem slot10_canon (t : Fin grid0.N) (hh hs) :
    (bufM.slice (Rect.unit (s := S2x256x1024) (k0_off10 (grid0.coords t)) S1x256x1024.size hh) hs).squeeze S256x1024 squeezes_S1x256x1024_S256x1024 = rslot (Ring.sl 2 t.val) := rslot_congr (slot_eq t).2.1 _ _
@[sl_canon] theorem slot13_canon (t : Fin grid0.N) (hh hs) :
    (bufM.slice (Rect.unit (s := S2x256x1024) (k0_off13 (grid0.coords t)) S1x256x1024.size hh) hs).squeeze S256x1024 squeezes_S1x256x1024_S256x1024 = rslot (Ring.sl 2 t.val) := rslot_congr (slot_eq t).2.2.1 _ _
@[sl_canon] theorem slot25_canon (t : Fin grid0.N) (hh hs) :
    (bufM.slice (Rect.unit (s := S2x256x1024) (k0_off25 (grid0.coords t)) S1x256x1024.size hh) hs).squeeze S256x1024 squeezes_S1x256x1024_S256x1024 = rslot (Ring.sl 2 t.val) := rslot_congr (slot_eq t).2.2.2.1 _ _
@[sl_canon] theorem slot22_canon (t : Fin grid0.N) (hh hs) :
    (bufM.slice (Rect.unit (s := S2x256x1024) (k0_off22 (grid0.coords t)) S1x256x1024.size hh) hs).squeeze S256x1024 squeezes_S1x256x1024_S256x1024 = rslot (Ring.sl 2 (t.val + 1)) := rslot_congr (slot_eq t).2.2.2.2 _ _

/-! The output's pieces. -/
@[sl_canon] theorem piece2_canon (t : Fin grid0.N) (h : 2 ≤ t.val) (hh hs) :
    (outM.slice (Rect.unit (s := S4x4096x1024) (k0_off2 (grid0.coords t)) S1x256x1024.size hh) hs).squeeze S256x1024 squeezes_S1x256x1024_S256x1024 = piece 0 (Ring.bk 16 (t.val - 2)) := piece_congr (waited_eq t h).1 _ _
@[sl_canon] theorem piece5_canon (t : Fin grid0.N) (h : 2 ≤ t.val) (hh hs) :
    (outM.slice (Rect.unit (s := S4x4096x1024) (k0_off5 (grid0.coords t)) S1x256x1024.size hh) hs).squeeze S256x1024 squeezes_S1x256x1024_S256x1024 = piece 1 (Ring.bk 16 (t.val - 2)) := piece_congr (waited_eq t h).2.1 _ _
@[sl_canon] theorem piece7_canon (t : Fin grid0.N) (h : 2 ≤ t.val) (hh hs) :
    (outM.slice (Rect.unit (s := S4x4096x1024) (k0_off7 (grid0.coords t)) S1x256x1024.size hh) hs).squeeze S256x1024 squeezes_S1x256x1024_S256x1024 = piece 2 (Ring.bk 16 (t.val - 2)) := piece_congr (waited_eq t h).2.2.1 _ _
@[sl_canon] theorem piece9_canon (t : Fin grid0.N) (h : 2 ≤ t.val) (hh hs) :
    (outM.slice (Rect.unit (s := S4x4096x1024) (k0_off9 (grid0.coords t)) S1x256x1024.size hh) hs).squeeze S256x1024 squeezes_S1x256x1024_S256x1024 = piece 3 (Ring.bk 16 (t.val - 2)) := piece_congr (waited_eq t h).2.2.2 _ _
@[sl_canon] theorem piece21_canon (t : Fin grid0.N) (h : t.val = 15) (hh hs) :
    (outM.slice (Rect.unit (s := S4x4096x1024) (k0_off21 (grid0.coords t)) S1x256x1024.size hh) hs).squeeze S256x1024 squeezes_S1x256x1024_S256x1024 = piece 0 (Ring.bk 16 (t.val - 1)) := piece_congr (drained_eq t h).1 _ _
@[sl_canon] theorem piece27_canon (t : Fin grid0.N) (h : t.val = 15) (hh hs) :
    (outM.slice (Rect.unit (s := S4x4096x1024) (k0_off27 (grid0.coords t)) S1x256x1024.size hh) hs).squeeze S256x1024 squeezes_S1x256x1024_S256x1024 = piece 1 (Ring.bk 16 (t.val - 1)) := piece_congr (drained_eq t h).2.1 _ _
@[sl_canon] theorem piece31_canon (t : Fin grid0.N) (h : t.val = 15) (hh hs) :
    (outM.slice (Rect.unit (s := S4x4096x1024) (k0_off31 (grid0.coords t)) S1x256x1024.size hh) hs).squeeze S256x1024 squeezes_S1x256x1024_S256x1024 = piece 2 (Ring.bk 16 (t.val - 1)) := piece_congr (drained_eq t h).2.2.1 _ _
@[sl_canon] theorem piece35_canon (t : Fin grid0.N) (h : t.val = 15) (hh hs) :
    (outM.slice (Rect.unit (s := S4x4096x1024) (k0_off35 (grid0.coords t)) S1x256x1024.size hh) hs).squeeze S256x1024 squeezes_S1x256x1024_S256x1024 = piece 3 (Ring.bk 16 (t.val - 1)) := piece_congr (drained_eq t h).2.2.2 _ _
@[sl_canon] theorem piece12_canon (t : Fin grid0.N) (hh hs) :
    (outM.slice (Rect.unit (s := S4x4096x1024) (k0_off12 (grid0.coords t)) S1x256x1024.size hh) hs).squeeze S256x1024 squeezes_S1x256x1024_S256x1024 = piece 0 (Ring.bk 16 t.val) := piece_congr (issued_eq t).1 _ _
@[sl_canon] theorem piece15_canon (t : Fin grid0.N) (hh hs) :
    (outM.slice (Rect.unit (s := S4x4096x1024) (k0_off15 (grid0.coords t)) S1x256x1024.size hh) hs).squeeze S256x1024 squeezes_S1x256x1024_S256x1024 = piece 1 (Ring.bk 16 t.val) := piece_congr (issued_eq t).2.1 _ _
@[sl_canon] theorem piece17_canon (t : Fin grid0.N) (hh hs) :
    (outM.slice (Rect.unit (s := S4x4096x1024) (k0_off17 (grid0.coords t)) S1x256x1024.size hh) hs).squeeze S256x1024 squeezes_S1x256x1024_S256x1024 = piece 2 (Ring.bk 16 t.val) := piece_congr (issued_eq t).2.2.1 _ _
@[sl_canon] theorem piece19_canon (t : Fin grid0.N) (hh hs) :
    (outM.slice (Rect.unit (s := S4x4096x1024) (k0_off19 (grid0.coords t)) S1x256x1024.size hh) hs).squeeze S256x1024 squeezes_S1x256x1024_S256x1024 = piece 3 (Ring.bk 16 t.val) := piece_congr (issued_eq t).2.2.2.1 _ _
@[sl_canon] theorem piece24_canon (t : Fin grid0.N) (hh hs) :
    (outM.slice (Rect.unit (s := S4x4096x1024) (k0_off24 (grid0.coords t)) S1x256x1024.size hh) hs).squeeze S256x1024 squeezes_S1x256x1024_S256x1024 = piece 0 (Ring.bk 16 t.val) := piece_congr (issued_eq t).2.2.2.2.1 _ _
@[sl_canon] theorem piece29_canon (t : Fin grid0.N) (hh hs) :
    (outM.slice (Rect.unit (s := S4x4096x1024) (k0_off29 (grid0.coords t)) S1x256x1024.size hh) hs).squeeze S256x1024 squeezes_S1x256x1024_S256x1024 = piece 1 (Ring.bk 16 t.val) := piece_congr (issued_eq t).2.2.2.2.2.1 _ _
@[sl_canon] theorem piece33_canon (t : Fin grid0.N) (hh hs) :
    (outM.slice (Rect.unit (s := S4x4096x1024) (k0_off33 (grid0.coords t)) S1x256x1024.size hh) hs).squeeze S256x1024 squeezes_S1x256x1024_S256x1024 = piece 2 (Ring.bk 16 t.val) := piece_congr (issued_eq t).2.2.2.2.2.2.1 _ _
@[sl_canon] theorem piece37_canon (t : Fin grid0.N) (hh hs) :
    (outM.slice (Rect.unit (s := S4x4096x1024) (k0_off37 (grid0.coords t)) S1x256x1024.size hh) hs).squeeze S256x1024 squeezes_S1x256x1024_S256x1024 = piece 3 (Ring.bk 16 t.val) := piece_congr (issued_eq t).2.2.2.2.2.2.2 _ _

end Canon

end Cert.KernelIdeal.Hand

end
-- ==== Proof.Table.lean ====
module

public import proofs.«01_k».proof.Proof.Geom
public import Idealize.ShloMosaic.Lib.Writes
public import Idealize.ShloMosaic.Lib.VecWindow
public import Idealize.ShloMosaic.Lib.Pipeline.Value
public import Idealize.ShloMosaic.Lib.Pointwise.Index

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A 256-row tile. -/
abbrev Tile (F : FTy → Type) [FloatOps F] [Named F] : Type := S256x1024.Idx → Elt F .f32
/-- Sixteen rows of a tile. -/
abbrev Blk (F : FTy → Type) [FloatOps F] [Named F] : Type := S16x1024.Idx → Elt F .f32

theorem row_slices (m : Fin 16) : S16x1024.Slices ![m.val, 0] S1x1024 := by revert m; decide
theorem blk_inb (m : Fin 16) : ∀ a, (![16 * m.val, 0] : Fin 2 → Nat) a + S16x1024.size a ≤ S256x1024.size a := by revert m; decide

/-- Row `m` of a block, spread down a block. -/
def spread (m : Fin 16) (x : FVec F S16x1024 .f32) : FVec F S16x1024 .f32 :=
  broadcastTo S16x1024 (extractStridedSlice S1x1024 ![m.val, 0] x (row_slices m)) broadcasts_S1x1024_S16x1024
/-- Rows `16m … 16m+15` of the sine table: the sine of the sum of a coarse and a fine angle. -/
def sinBlk (m : Fin 16) : FVec F S16x1024 .f32 :=
  addf (mulf (spread m (k0_pay5 k0_pay71)) (k0_pay3 k0_pay71)) (mulf (spread m (k0_pay6 k0_pay71)) (k0_pay2 k0_pay71))
/-- Rows `16m … 16m+15` of the cosine table. -/
def cosBlk (m : Fin 16) : FVec F S16x1024 .f32 :=
  subf (mulf (spread m (k0_pay6 k0_pay71)) (k0_pay3 k0_pay71)) (mulf (spread m (k0_pay5 k0_pay71)) (k0_pay2 k0_pay71))

/-- The table whose rows `16m … 16m+15` are block `m`. -/
def tabOf (P : Fin 16 → Blk F) : Tile F := fun y =>
  P ⟨(y 0).val / 16, by have : (y 0).val < 256 := (y 0).isLt; omega⟩ (ix2 (n0 := 16) (n1 := 1024) ⟨(y 0).val % 16, by omega⟩ (y 1))
theorem tabOf_apply (P : Fin 16 → Blk F) (m : Fin 16) (x : S16x1024.Idx) (y : S256x1024.Idx) (h0 : (y 0).val = 16 * m.val + (x 0).val)
    (h1 : (y 1).val = (x 1).val) : tabOf P y = P m x := by
  have hx : (x 0).val < 16 := (x 0).isLt
  have em : (⟨(y 0).val / 16, by have : (y 0).val < 256 := (y 0).isLt; omega⟩ : Fin 16) = m := Fin.ext (by show (y 0).val / 16 = m.val; omega)
  have ex : ix2 (n0 := 16) (n1 := 1024) ⟨(y 0).val % 16, by omega⟩ (y 1) = x := by
    funext a
    match a with
    | ⟨0, _⟩ => exact Fin.ext (by show (y 0).val % 16 = (x 0).val; omega)
    | ⟨1, _⟩ => exact Fin.ext h1
  unfold tabOf
  rw [em, ex]
/-- The sine table. -/
def sinT : Tile F := tabOf sinBlk
/-- The cosine table. -/
def cosT : Tile F := tabOf cosBlk

/-- Block `m` stored at its rows. -/
abbrev blkPiece (P : Fin 16 → Blk F) (m : Fin 16) : View.Piece (Elt F) S256x1024 .f32 := ⟨Rect.unit ![16 * m.val, 0] S16x1024.size (blk_inb m), P m⟩
/-- The sixteen stores of a table, the last one first. -/
abbrev tabList (P : Fin 16 → Blk F) : List (View.Piece (Elt F) S256x1024 .f32) :=
  ([15, 14, 13, 12, 11, 10, 9, 8, 7, 6, 5, 4, 3, 2, 1, 0] : List (Fin 16)).map (blkPiece P)

/-- The sixteen stores leave the table, whatever was there. -/
theorem read_tabList {κ : Kind} {sp : Space} (v : View sig κ sp S256x1024 .f32) (f : v.ty.Contents (Elt F)) (P : Fin 16 → Blk F) :
    v.read (Elt F) (v.writes (Elt F) f (tabList P)) = tabOf P := by
  funext y
  have hy : (y 0).val < 256 := (y 0).isLt
  have hy1 : (y 1).val < 1024 := (y 1).isLt
  refine View.read_writes_apply_of_pieces v f (tabOf P) _ ?_ y ?_
  · intro p hp x
    obtain ⟨m, -, rfl⟩ := List.mem_map.1 hp
    have h0 : (x 0).val < 16 := (x 0).isLt
    have hm := m.isLt
    have e0 : (((Rect.unit (s := S256x1024) ![16 * m.val, 0] S16x1024.size (blk_inb m)).emb x) 0).val = 16 * m.val + 1 * (x 0).val := rfl
    have e1 : (((Rect.unit (s := S256x1024) ![16 * m.val, 0] S16x1024.size (blk_inb m)).emb x) 1).val = 0 + 1 * (x 1).val := rfl
    exact (tabOf_apply P m x _ (by rw [e0]; omega) (by rw [e1]; omega)).symm
  · refine ⟨blkPiece P ⟨(y 0).val / 16, by omega⟩, List.mem_map_of_mem (by generalize (⟨(y 0).val / 16, _⟩ : Fin 16) = m; revert m; decide), ?_⟩
    rw [Rect.mem_set_unit]
    intro a
    match a with
    | ⟨0, _⟩ => show 16 * ((y 0).val / 16) ≤ (y 0).val ∧ (y 0).val < 16 * ((y 0).val / 16) + 16; omega
    | ⟨1, _⟩ => show 0 ≤ (y 1).val ∧ (y 1).val < 0 + 1024; omega

/-- The tile a point computes from the two tables. -/
abbrev tileT (i : grid0.Coords) : Tile F := k0_pay78 i cosT sinT
/-- A tile with its first row made zero. -/
def headZ (T : Tile F) : Tile F := fun y => if (y 0).val = 0 then Scalar.ofBits .f32 0x00000000#32 else T y

end Cert.KernelIdeal.Hand

end
-- ==== Proof.Body.lean ====
module

public import proofs.«01_k».proof.Proof.Table
public import Idealize.ShloMosaic.Lib.Ring.AtN
public import Idealize.ShloMosaic.Lib.ValueLayout

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU (nD : Nat) (τ : Topo) : Type := UR sig nD τ × Counters
local notation "𝕄" => MT nD τ sig Unit (Elt F) ℕ (UU nD τ) ℕ
abbrev 𝒱₀ : Variants := Variants.none

section Pieces
variable (c : Dev nD) (X : Fin 16 → Tile F)

abbrev cellP (s : Fin 2) (b : Fin 4) : sProp 𝕄 := semVal ((c : Thread nD τ), SemLoc.dma (csm s b).sem) 0
abbrev slotP (s : Fin 2) (q : PosShare TreeShare) (f : Buf (Elt F) ((rslot s).view.loc (c : Thread nD τ))) : sProp 𝕄 :=
  (rslot s).view.loc (c : Thread nD τ) ↦[(rslot s).view.set]{q} f
abbrev pieceP (b : Fin 4) (u : Fin 16) (f : Buf (Elt F) ((piece b u).view.loc (c : Thread nD τ))) : sProp 𝕄 :=
  (piece b u).view.loc (c : Thread nD τ) ↦[(piece b u).view.set]{fullShare} f
abbrev sinP (f : Buf (Elt F) (sinM.view.loc (c : Thread nD τ))) : sProp 𝕄 := sinM.view.loc (c : Thread nD τ) ↦[sinM.view.set]{fullShare} f
abbrev cosP (f : Buf (Elt F) (cosM.view.loc (c : Thread nD τ))) : sProp 𝕄 := cosM.view.loc (c : Thread nD τ) ↦[cosM.view.set]{fullShare} f
abbrev tok (b : Fin 4) : PosShare TreeShare := Transfers.shareTok fullShare 4 b
abbrev rest4 : PosShare TreeShare := Transfers.shareDrop fullShare 4
abbrev flightP (s : Fin 2) (b : Fin 4) (u : Fin 16) (f : Buf (Elt F) ((piece b u).view.loc (c : Thread nD τ))) : sProp 𝕄 :=
  Transfers.Flight countersEmb (c : Thread nD τ) (SemLoc.dma (csm s b).sem) () 32768
    iprop(pieceP c b u ((piece b u).view.writes (Elt F) f [⟨Rect.whole S256x1024, ReadAs.same.apply ((rslot s).view.read (Elt F) ((rslot s).view.rep (X u)))⟩])
      ∗ slotP c s (tok b) ((rslot s).view.rep (X u)))

/-- The four cells of slot `s`, at zero. -/
def cellsP (s : Fin 2) : sProp 𝕄 := iprop(cellP c s 0 ∗ cellP c s 1 ∗ cellP c s 2 ∗ cellP c s 3)
/-- Slot `s` free: held whole, its cells at zero. -/
def freeP (s : Fin 2) : sProp 𝕄 := iprop((∃ f, slotP c s fullShare f) ∗ cellsP c s)
/-- Tile `u` on its way out of slot `s` into its four batch rows. -/
def inflP (s : Fin 2) (u : Fin 16) : sProp 𝕄 :=
  iprop(slotP c s rest4 ((rslot s).view.rep (X u)) ∗ (∃ f, flightP c X s 0 u f) ∗ (∃ f, flightP c X s 1 u f) ∗ (∃ f, flightP c X s 2 u f) ∗ (∃ f, flightP c X s 3 u f))
/-- Tile `u` not yet written. -/
def aheadP (u : Fin 16) : sProp 𝕄 := iprop((∃ f, pieceP c 0 u f) ∗ (∃ f, pieceP c 1 u f) ∗ (∃ f, pieceP c 2 u f) ∗ (∃ f, pieceP c 3 u f))
/-- Tile `u` written, in its four batch rows. -/
def behindP (u : Fin 16) : sProp 𝕄 :=
  iprop(pieceP c 0 u ((piece 0 u).view.rep (X u)) ∗ pieceP c 1 u ((piece 1 u).view.rep (X u)) ∗ pieceP c 2 u ((piece 2 u).view.rep (X u)) ∗ pieceP c 3 u ((piece 3 u).view.rep (X u)))

theorem cells_intro (s : Fin 2) : iprop(cellP c s 0 ∗ cellP c s 1 ∗ cellP c s 2 ∗ cellP c s 3) ⊢ (cellsP c s : sProp 𝕄) := .rfl
theorem slot_split (s : Fin 2) (f : Buf (Elt F) ((rslot s).view.loc (c : Thread nD τ))) :
    slotP c s fullShare f ⊢ iprop(slotP c s rest4 f ∗ slotP c s (tok 0) f ∗ slotP c s (tok 1) f ∗ slotP c s (tok 2) f ∗ slotP c s (tok 3) f) :=
  (Transfers.pointsTo_toks_split fullShare 4).trans (Entails.of_eq (by rw [Ring.bigSep_fin4]))
theorem slot_join (s : Fin 2) (f : Buf (Elt F) ((rslot s).view.loc (c : Thread nD τ))) :
    iprop(slotP c s rest4 f ∗ slotP c s (tok 0) f ∗ slotP c s (tok 1) f ∗ slotP c s (tok 2) f ∗ slotP c s (tok 3) f) ⊢ slotP c s fullShare f :=
  (Entails.of_eq (by rw [Ring.bigSep_fin4])).trans (Transfers.pointsTo_toks_join fullShare 4)

/-- A copy of tile `u` landed over whatever was there is the tile. -/
theorem landed_rep (s : Fin 2) (b : Fin 4) (u : Fin 16) (f : Buf (Elt F) ((piece b u).view.loc (c : Thread nD τ))) :
    (pieceP c b u ((piece b u).view.writes (Elt F) f [⟨Rect.whole S256x1024, ReadAs.same.apply ((rslot s).view.read (Elt F) ((rslot s).view.rep (X u)))⟩]) : sProp 𝕄)
      = pieceP c b u ((piece b u).view.rep (X u)) := by
  rw [View.read_rep]
  exact pointsTo_writes_whole_rebase (c : Thread nD τ) (piece b u) f (piece b u).view.junk (X u) fullShare

/-- The four copies of tile `u` landed: the tile is written. -/
theorem behind_intro (s : Fin 2) (u : Fin 16) (f0 f1 f2 f3) :
    iprop(pieceP c 0 u ((piece 0 u).view.writes (Elt F) f0 [⟨Rect.whole S256x1024, ReadAs.same.apply ((rslot s).view.read (Elt F) ((rslot s).view.rep (X u)))⟩])
        ∗ pieceP c 1 u ((piece 1 u).view.writes (Elt F) f1 [⟨Rect.whole S256x1024, ReadAs.same.apply ((rslot s).view.read (Elt F) ((rslot s).view.rep (X u)))⟩])
        ∗ pieceP c 2 u ((piece 2 u).view.writes (Elt F) f2 [⟨Rect.whole S256x1024, ReadAs.same.apply ((rslot s).view.read (Elt F) ((rslot s).view.rep (X u)))⟩])
        ∗ pieceP c 3 u ((piece 3 u).view.writes (Elt F) f3 [⟨Rect.whole S256x1024, ReadAs.same.apply ((rslot s).view.read (Elt F) ((rslot s).view.rep (X u)))⟩]))
      ⊢ behindP c X u := by
  rw [landed_rep, landed_rep, landed_rep, landed_rep]; exact .rfl

/-- Storing a whole tile in the slot through the whole buffer writes the slot. -/
theorem stored_eq {off : Fin 3 → Nat} {s : Fin 2} (e : off = slotOff s) (inb) (f : Buf (Elt F) ((rslot s).view.loc (c : Thread nD τ))) (T : Tile F) :
    (bufM.access (Rect.unit (s := S2x256x1024) off S1x256x1024.size inb)).write (Elt F) f (k0_pay79 T) Finset.univ
      = (rslot s).view.writes (Elt F) f [⟨Rect.whole S256x1024, T⟩] := by
  subst e
  have h : S256x1024.numel = (Rect.unit (s := S2x256x1024) (slotOff s) S1x256x1024.size inb).shape.numel :=
    show S256x1024.numel = S1x256x1024.numel by decide
  rw [← View.write_univ_eq_writes_whole, View.writes_nil]
  exact (View.write_reshape_univ (bufM.access (Rect.unit (s := S2x256x1024) (slotOff s) S1x256x1024.size inb)) h f T).symm
/-- So the slot then holds the tile. -/
theorem stored_rep {off : Fin 3 → Nat} {s : Fin 2} (e : off = slotOff s) (inb) (f : Buf (Elt F) ((rslot s).view.loc (c : Thread nD τ))) (T Y : Tile F) (h : Y = T) :
    (slotP c s fullShare ((bufM.access (Rect.unit (s := S2x256x1024) off S1x256x1024.size inb)).write (Elt F) f (k0_pay79 T) Finset.univ) : sProp 𝕄)
      ⊢ slotP c s fullShare ((rslot s).view.rep Y) := by
  subst h
  rw [stored_eq c e inb f Y]
  exact Entails.of_eq (pointsTo_writes_whole_rebase (c : Thread nD τ) (rslot s) f (rslot s).view.junk _ fullShare)

theorem rslot_read (s : Fin 2) (g : Buf (Elt F) ((rslot s).view.loc (c : Thread nD τ))) (y : S256x1024.Idx) :
    (rslot s).view.read (Elt F) g y = bufM.view.read (Elt F) g ((Rect.unit (s := S2x256x1024) (slotOff s) S1x256x1024.size (slotOff_inb s)).emb
      (Shape.reshapeEquiv (show S256x1024.numel = S1x256x1024.numel by decide) y)) := rfl

/-- Storing a whole tile in slot 0, then a row of zeros over its first row. -/
theorem stored_head {off : Fin 3 → Nat} {s : Fin 2} (hs : s = 0) (e : off = slotOff s) (inb inb0) (f : Buf (Elt F) ((rslot s).view.loc (c : Thread nD τ))) (T Y : Tile F) (h : Y = headZ T) :
    (slotP c s fullShare ((bufM.access (Rect.unit (s := S2x256x1024) ![0, 0, 0] S1x1x1024.size inb0)).write (Elt F)
        ((bufM.access (Rect.unit (s := S2x256x1024) off S1x256x1024.size inb)).write (Elt F) f (k0_pay79 T) Finset.univ) (k0_pay80 (F := F)) Finset.univ) : sProp 𝕄)
      ⊢ slotP c s fullShare ((rslot s).view.rep Y) := by
  subst h hs
  rw [stored_eq c e inb f T]
  refine pointsTo_rep_of_read (c : Thread nD τ) (rslot 0) _ fullShare _ (funext fun y => ?_)
  refine (rslot_read c 0 _ y).trans ?_
  unfold headZ
  have hz : Shape.reshapeEquiv (show S256x1024.numel = S1x256x1024.numel by decide) y = ix3 (n0 := 1) (n1 := 256) (n2 := 1024) 0 (y 0) (y 1) := by
    conv_lhs => rw [eq_ix2 (n0 := 256) (n1 := 1024) y]
    exact ValueIdx.reshapeEquiv_ix2_1ab _ _ _
  rw [hz]
  split
  · rename_i hy
    have : (Rect.unit (s := S2x256x1024) (slotOff 0) S1x256x1024.size (slotOff_inb 0)).emb (ix3 (n0 := 1) (n1 := 256) (n2 := 1024) 0 (y 0) (y 1))
        = (Rect.unit (s := S2x256x1024) ![0, 0, 0] S1x1x1024.size inb0).emb (ix3 (n0 := 1) (n1 := 1) (n2 := 1024) 0 0 (y 1)) := by
      funext a
      match a with
      | ⟨0, _⟩ => rfl
      | ⟨1, _⟩ => exact Fin.ext (by show 0 + 1 * (y 0).val = 0; omega)
      | ⟨2, _⟩ => rfl
    rw [this]
    exact View.read_slice_write_emb (v := bufM.view) _ _ _ (Finset.mem_univ _)
  · rename_i hy
    refine (View.read_slice_write_of_not_mem (v := bufM.view) _ _ _ _ ?_).trans ?_
    · intro hm
      obtain ⟨x, -, hx⟩ := Finset.mem_map.1 hm
      have h1 := congrArg (fun z : S2x256x1024.Idx => (z 1).val) hx
      have hx1 : (x 1).val < 1 := (x 1).isLt
      exact hy (by
        have h1' : 0 + 1 * (x 1).val = 0 + 1 * (y 0).val := h1
        omega)
    · have := congrFun (View.read_writes_whole (rslot 0).view f T) y
      rw [rslot_read c, hz] at this
      exact this

/-- Reading a whole table back after its sixteen stores. -/
theorem readCov_tab {κ : Kind} {sp : Space} (v : View sig κ sp S256x1024 .f32) (P : Fin 16 → Blk F) (inb) :
    v.readCov (tabList P) (Rect.unit ![0, 0] S256x1024.size inb).toLoadRect = tabOf P :=
  (View.readAt_full v _ inb).trans (read_tabList v _ P)

/-- The first row of slot 0 lies in slot 0. -/
theorem row0_in {s : Fin 2} (hs : s = 0) (inb0) :
    (bufM.access (Rect.unit (s := S2x256x1024) ![0, 0, 0] S1x1x1024.size inb0)).set ⊆ (rslot s).view.set := by
  subst hs
  have e : (rslot 0).view.set = (bufM.view.slice (Rect.unit (s := S2x256x1024) (slotOff 0) S1x256x1024.size (slotOff_inb 0))).set := View.set_reshape _ _
  refine (Eq.subset (View.set_slice bufM.view _)).trans (Finset.Subset.trans ?_ (Eq.subset (e.trans (View.set_slice bufM.view _)).symm))
  refine Finset.map_subset_map.2 fun x hx => ?_
  rw [Rect.mem_set_unit] at hx ⊢
  intro a
  have := hx a
  revert this
  match a with
  | ⟨0, _⟩ => exact id
  | ⟨1, _⟩ => exact fun h => ⟨h.1, Nat.lt_of_lt_of_le h.2 (show 0 + 1 ≤ 0 + 256 by decide)⟩
  | ⟨2, _⟩ => exact id

end Pieces

/-- The tile point `i` computes from the two tables. -/
abbrev tileOf (c : Dev nD) (i : grid0.Coords) (SS : Buf (Elt F) (sinM.view.loc (c : Thread nD τ))) (CC : Buf (Elt F) (cosM.view.loc (c : Thread nD τ))) : Tile F :=
  k0_pay78 i (View.readAt (Elt F) cosM.view (Rect.unit ![0, 0] S256x1024.size inb_S256x1024_S256x1024_0_0).toLoadRect CC)
    (View.readAt (Elt F) sinM.view (Rect.unit ![0, 0] S256x1024.size inb_S256x1024_S256x1024_0_0).toLoadRect SS)

variable (c : Dev nD) (X : Fin 16 → Tile F) (SS : Buf (Elt F) (sinM.view.loc (c : Thread nD τ))) (CC : Buf (Elt F) (cosM.view.loc (c : Thread nD τ)))

/-- A point from 2 to 14: the slot's previous tile is retired, the point's own computed, stored and sent out. -/
theorem run_mid (t : Fin grid0.N) (h2 : 2 ≤ t.val) (h15 : t.val ≠ 15) (hX : X (Ring.bk 16 t.val) = tileOf c (grid0.coords t) SS CC) :
    iprop(inflP c X (Ring.sl 2 t.val) (Ring.bk 16 (t.val - 2)) ∗ aheadP c (Ring.bk 16 t.val) ∗ sinP c SS ∗ cosP c CC ∗ (∃ W, owes (c : Thread nD τ) 0 W))
      ⊢ wp frame (wpE (defs₀ (F := F)) 𝒱₀ (c : Thread nD τ) none) Set.univ (bodyAt0 (F := F) t) (fun _ =>
        iprop(inflP c X (Ring.sl 2 t.val) (Ring.bk 16 t.val) ∗ behindP c X (Ring.bk 16 (t.val - 2)) ∗ sinP c SS ∗ cosP c CC ∗ (∃ W, owes (c : Thread nD τ) 0 W))) := by
  have hB : ¬ condB (grid0.coords t) := by rw [condB_iff]; omega
  have hC2 : k0_cond2 (grid0.coords t) = 1#1 := (cond2_iff t).2 h2
  have hC4 : ¬ (k0_cond4 (grid0.coords t) = 1#1) := by rw [cond4_iff]; omega
  unfold inflP aheadP
  iintro ⟨⟨HaR, ⟨%a0, Ha0⟩, ⟨%a1, Ha1⟩, ⟨%a2, Ha2⟩, ⟨%a3, Ha3⟩⟩, ⟨⟨%g0, HP0⟩, ⟨%g1, HP1⟩, ⟨%g2, HP2⟩, ⟨%g3, HP3⟩⟩, HS, HC, ⟨%W, HW⟩⟩
  sl_unfold [bodyAt0, cc0__pe_tile_kernel]
  sl_exec
  ihave HH := (slot_join c (Ring.sl 2 t.val) _) $$ [HaR Ha0_src Ha1_src Ha2_src Ha3_src]
  · isplitl [HaR]; · iexact HaR
    isplitl [Ha0_src]; · iexact Ha0_src
    isplitl [Ha1_src]; · iexact Ha1_src
    isplitl [Ha2_src]; · iexact Ha2_src
    iexact Ha3_src
  ihave HK := (cells_intro c (Ring.sl 2 t.val)) $$ [Ha0 Ha1 Ha2 Ha3]
  · isplitl [Ha0]; · iexact Ha0
    isplitl [Ha1]; · iexact Ha1
    isplitl [Ha2]; · iexact Ha2
    iexact Ha3
  ihave HB := (behind_intro c X (Ring.sl 2 t.val) (Ring.bk 16 (t.val - 2)) _ _ _ _) $$ [Ha0_dst Ha1_dst Ha2_dst Ha3_dst]
  · isplitl [Ha0_dst]; · iexact Ha0_dst
    isplitl [Ha1_dst]; · iexact Ha1_dst
    isplitl [Ha2_dst]; · iexact Ha2_dst
    iexact Ha3_dst
  sl_exec
  unfold run_mid.sl.HH_w1
  rw [show run_mid.sl.v40 c SS CC t = k0_pay79 (tileOf c (grid0.coords t) SS CC) from rfl]
  ihave HT := (stored_rep c (slot_eq t).2.1 _ _ _ _ hX) $$ HH
  ihave HT := (slot_split c (Ring.sl 2 t.val) _) $$ HT
  icases HT with ⟨HR, HT0, HT1, HT2, HT3⟩
  ihave HR := (park _) $$ HR
  unfold cellsP
  icases HK with ⟨HC0, HC1, HC2, HC3⟩
  sl_exec
  unfold run_mid.sl.dma0
  ihave HR := (unpark _) $$ HR
  sl_step
  isplitl [HR HC0 HC1 HC2 HC3]
  · isplitl [HR]; · iexact HR
    isplitl [HC0]; · iexists g0; iexact HC0
    isplitl [HC1]; · iexists g1; iexact HC1
    isplitl [HC2]; · iexists g2; iexact HC2
    iexists g3; iexact HC3
  isplitl [HB]; · iexact HB
  isplitl [HS]; · iexact HS
  isplitl [HC]; · iexact HC
  iexists _; iexact HW

/-- Point 1: the slot is free, so nothing is retired. -/
theorem run_one (t : Fin grid0.N) (h1 : t.val = 1) (hX : X (Ring.bk 16 t.val) = tileOf c (grid0.coords t) SS CC) :
    iprop(freeP c (Ring.sl 2 t.val) ∗ aheadP c (Ring.bk 16 t.val) ∗ sinP c SS ∗ cosP c CC ∗ (∃ W, owes (c : Thread nD τ) 0 W))
      ⊢ wp frame (wpE (defs₀ (F := F)) 𝒱₀ (c : Thread nD τ) none) Set.univ (bodyAt0 (F := F) t) (fun _ =>
        iprop(inflP c X (Ring.sl 2 t.val) (Ring.bk 16 t.val) ∗ sinP c SS ∗ cosP c CC ∗ (∃ W, owes (c : Thread nD τ) 0 W))) := by
  have hB : ¬ condB (grid0.coords t) := by rw [condB_iff]; omega
  have hC2 : ¬ (k0_cond2 (grid0.coords t) = 1#1) := by rw [cond2_iff]; omega
  have hC4 : ¬ (k0_cond4 (grid0.coords t) = 1#1) := by rw [cond4_iff]; omega
  unfold freeP aheadP
  iintro ⟨⟨⟨%f, HH⟩, HK⟩, ⟨⟨%g0, HP0⟩, ⟨%g1, HP1⟩, ⟨%g2, HP2⟩, ⟨%g3, HP3⟩⟩, HS, HC, ⟨%W, HW⟩⟩
  sl_unfold [bodyAt0, cc0__pe_tile_kernel]
  sl_exec
  unfold run_one.sl.HH_w1
  rw [show run_one.sl.v40 c SS CC t = k0_pay79 (tileOf c (grid0.coords t) SS CC) from rfl]
  ihave HT := (stored_rep c (slot_eq t).2.1 _ _ _ _ hX) $$ HH
  ihave HT := (slot_split c (Ring.sl 2 t.val) _) $$ HT
  icases HT with ⟨HR, HT0, HT1, HT2, HT3⟩
  ihave HR := (park _) $$ HR
  unfold cellsP
  icases HK with ⟨HC0, HC1, HC2, HC3⟩
  sl_exec
  unfold run_one.sl.dma0
  ihave HR := (unpark _) $$ HR
  sl_step
  isplitl [HR HC0 HC1 HC2 HC3]
  · unfold inflP
    isplitl [HR]; · iexact HR
    isplitl [HC0]; · iexists g0; iexact HC0
    isplitl [HC1]; · iexists g1; iexact HC1
    isplitl [HC2]; · iexists g2; iexact HC2
    iexists g3; iexact HC3
  isplitl [HS]; · iexact HS
  isplitl [HC]; · iexact HC
  iexists _; iexact HW

/-- The last point: as from 2 to 14, then the last two tiles are retired. -/
theorem run_last (t : Fin grid0.N) (h15 : t.val = 15) (hX : X (Ring.bk 16 t.val) = tileOf c (grid0.coords t) SS CC) :
    iprop(inflP c X (Ring.sl 2 t.val) (Ring.bk 16 (t.val - 2)) ∗ inflP c X (Ring.sl 2 (t.val + 1)) (Ring.bk 16 (t.val - 1)) ∗ aheadP c (Ring.bk 16 t.val) ∗ sinP c SS ∗ cosP c CC ∗ (∃ W, owes (c : Thread nD τ) 0 W))
      ⊢ wp frame (wpE (defs₀ (F := F)) 𝒱₀ (c : Thread nD τ) none) Set.univ (bodyAt0 (F := F) t) (fun _ =>
        iprop((behindP c X (Ring.bk 16 t.val) ∗ behindP c X (Ring.bk 16 (t.val - 2)) ∗ behindP c X (Ring.bk 16 (t.val - 1))) ∗ freeP c (Ring.sl 2 t.val) ∗ freeP c (Ring.sl 2 (t.val + 1)) ∗ sinP c SS ∗ cosP c CC ∗ (∃ W, owes (c : Thread nD τ) 0 W))) := by
  have h2 : 2 ≤ t.val := by omega
  have hB : ¬ condB (grid0.coords t) := by rw [condB_iff]; omega
  have hC2 : k0_cond2 (grid0.coords t) = 1#1 := (cond2_iff t).2 h2
  have hC4 : k0_cond4 (grid0.coords t) = 1#1 := by rw [cond4_iff]; omega
  unfold inflP aheadP
  iintro ⟨⟨HaR, ⟨%a0, Ha0⟩, ⟨%a1, Ha1⟩, ⟨%a2, Ha2⟩, ⟨%a3, Ha3⟩⟩, ⟨HbR, ⟨%b0, Hb0⟩, ⟨%b1, Hb1⟩, ⟨%b2, Hb2⟩, ⟨%b3, Hb3⟩⟩, ⟨⟨%g0, HP0⟩, ⟨%g1, HP1⟩, ⟨%g2, HP2⟩, ⟨%g3, HP3⟩⟩, HS, HC, ⟨%W, HW⟩⟩
  sl_unfold [bodyAt0, cc0__pe_tile_kernel]
  sl_exec
  ihave HH := (slot_join c (Ring.sl 2 t.val) _) $$ [HaR Ha0_src Ha1_src Ha2_src Ha3_src]
  · isplitl [HaR]; · iexact HaR
    isplitl [Ha0_src]; · iexact Ha0_src
    isplitl [Ha1_src]; · iexact Ha1_src
    isplitl [Ha2_src]; · iexact Ha2_src
    iexact Ha3_src
  ihave HK := (cells_intro c (Ring.sl 2 t.val)) $$ [Ha0 Ha1 Ha2 Ha3]
  · isplitl [Ha0]; · iexact Ha0
    isplitl [Ha1]; · iexact Ha1
    isplitl [Ha2]; · iexact Ha2
    iexact Ha3
  ihave HB := (behind_intro c X (Ring.sl 2 t.val) (Ring.bk 16 (t.val - 2)) _ _ _ _) $$ [Ha0_dst Ha1_dst Ha2_dst Ha3_dst]
  · isplitl [Ha0_dst]; · iexact Ha0_dst
    isplitl [Ha1_dst]; · iexact Ha1_dst
    isplitl [Ha2_dst]; · iexact Ha2_dst
    iexact Ha3_dst
  sl_exec
  unfold run_last.sl.HH_w1
  rw [show run_last.sl.v40 c SS CC t = k0_pay79 (tileOf c (grid0.coords t) SS CC) from rfl]
  ihave HT := (stored_rep c (slot_eq t).2.1 _ _ _ _ hX) $$ HH
  ihave HT := (slot_split c (Ring.sl 2 t.val) _) $$ HT
  icases HT with ⟨HR, HT0, HT1, HT2, HT3⟩
  ihave HR := (park _) $$ HR
  unfold cellsP
  icases HK with ⟨HC0, HC1, HC2, HC3⟩
  sl_exec
  unfold run_last.sl.dma0
  ihave HR := (unpark _) $$ HR
  sl_step
  ihave HHa := (slot_join c (Ring.sl 2 t.val) _) $$ [HR HT0 HT1 HT2 HT3]
  · isplitl [HR]; · iexact HR
    isplitl [HT0]; · iexact HT0
    isplitl [HT1]; · iexact HT1
    isplitl [HT2]; · iexact HT2
    iexact HT3
  ihave HKa := (cells_intro c (Ring.sl 2 t.val)) $$ [HC0 HC1 HC2 HC3]
  · isplitl [HC0]; · iexact HC0
    isplitl [HC1]; · iexact HC1
    isplitl [HC2]; · iexact HC2
    iexact HC3
  ihave HBa := (behind_intro c X (Ring.sl 2 t.val) (Ring.bk 16 t.val) _ _ _ _) $$ [HP0 HP1 HP2 HP3]
  · isplitl [HP0]; · iexact HP0
    isplitl [HP1]; · iexact HP1
    isplitl [HP2]; · iexact HP2
    iexact HP3
  ihave HHb := (slot_join c (Ring.sl 2 (t.val + 1)) _) $$ [HbR Hb0_src Hb1_src Hb2_src Hb3_src]
  · isplitl [HbR]; · iexact HbR
    isplitl [Hb0_src]; · iexact Hb0_src
    isplitl [Hb1_src]; · iexact Hb1_src
    isplitl [Hb2_src]; · iexact Hb2_src
    iexact Hb3_src
  ihave HKb := (cells_intro c (Ring.sl 2 (t.val + 1))) $$ [Hb0 Hb1 Hb2 Hb3]
  · isplitl [Hb0]; · iexact Hb0
    isplitl [Hb1]; · iexact Hb1
    isplitl [Hb2]; · iexact Hb2
    iexact Hb3
  ihave HBb := (behind_intro c X (Ring.sl 2 (t.val + 1)) (Ring.bk 16 (t.val - 1)) _ _ _ _) $$ [Hb0_dst Hb1_dst Hb2_dst Hb3_dst]
  · isplitl [Hb0_dst]; · iexact Hb0_dst
    isplitl [Hb1_dst]; · iexact Hb1_dst
    isplitl [Hb2_dst]; · iexact Hb2_dst
    iexact Hb3_dst
  unfold freeP
  isplitl [HBa HB HBb]
  · isplitl [HBa]; · iexact HBa
    isplitl [HB]; · iexact HB
    iexact HBb
  isplitl [HHa HKa]
  · isplitl [HHa]; · iexists _; iexact HHa
    iexact HKa
  isplitl [HHb HKb]
  · isplitl [HHb]; · iexists _; iexact HHb
    iexact HKb
  isplitl [HS]; · iexact HS
  isplitl [HC]; · iexact HC
  iexists _; iexact HW

/-- Point 0: the two tables are built; the tile computed has its first row made zero. -/
theorem run_zero (t : Fin grid0.N) (h0 : t.val = 0) (hX : X (Ring.bk 16 t.val) = headZ (tileT (grid0.coords t))) :
    iprop(freeP c (Ring.sl 2 t.val) ∗ aheadP c (Ring.bk 16 t.val) ∗ (∃ f, sinP c f) ∗ (∃ f, cosP c f) ∗ (∃ W, owes (c : Thread nD τ) 0 W))
      ⊢ wp frame (wpE (defs₀ (F := F)) 𝒱₀ (c : Thread nD τ) none) Set.univ (bodyAt0 (F := F) t) (fun _ =>
        iprop(inflP c X (Ring.sl 2 t.val) (Ring.bk 16 t.val) ∗ sinP c (sinM.view.rep sinT) ∗ cosP c (cosM.view.rep cosT) ∗ (∃ W, owes (c : Thread nD τ) 0 W))) := by
  have hB : condB (grid0.coords t) := (condB_iff t).2 h0
  have hC2 : ¬ (k0_cond2 (grid0.coords t) = 1#1) := by rw [cond2_iff]; omega
  have hC4 : ¬ (k0_cond4 (grid0.coords t) = 1#1) := by rw [cond4_iff]; omega
  have hin : ((Memref.whole cc0_scratch0).access (Rect.unit ![0, 0, 0] S1x1x1024.size inb_S2x256x1024_S1x1x1024_0_0_0)).set
      ⊆ (rslot (Ring.sl 2 t.val)).view.set := row0_in (by rw [h0]; rfl) _
  unfold freeP aheadP
  iintro ⟨⟨⟨%f, HH⟩, HK⟩, ⟨⟨%g0, HP0⟩, ⟨%g1, HP1⟩, ⟨%g2, HP2⟩, ⟨%g3, HP3⟩⟩, ⟨%fs, HS⟩, ⟨%fc, HC⟩, ⟨%W, HW⟩⟩
  sl_unfold [bodyAt0, cc0__pe_tile_kernel]
  sl_exec
  have hsin : (run_zero.sl.HS_16 (F := F)) = tabList sinBlk :=
    (show _ = tabList (fun m => shapeCast S16x1024 (sinBlk m) shapeCasts_S16x1024_S16x1024) from by unfold run_zero.sl.HS_16; rfl).trans (by simp only [shapeCast_self])
  have hcos : (run_zero.sl.HC_16 (F := F)) = tabList cosBlk :=
    (show _ = tabList (fun m => shapeCast S16x1024 (cosBlk m) shapeCasts_S16x1024_S16x1024) from by unfold run_zero.sl.HC_16; rfl).trans (by simp only [shapeCast_self])
  unfold run_zero.sl.HH_w2 run_zero.sl.HH_w1
  rw [hsin, hcos, show run_zero.sl.v78_1 (F := F) = k0_pay80 from rfl,
    show run_zero.sl.v40 (F := F) t = k0_pay79 (k0_pay78 (grid0.coords t)
      (cosM.view.readCov run_zero.sl.HC_16 (Rect.unit ![0, 0] S256x1024.size inb_S256x1024_S256x1024_0_0).toLoadRect)
      (sinM.view.readCov run_zero.sl.HS_16 (Rect.unit ![0, 0] S256x1024.size inb_S256x1024_S256x1024_0_0).toLoadRect)) from rfl, hsin, hcos]
  ihave HT := (stored_head c (by rw [h0]; rfl) (slot_eq t).2.1 _ _ _ _ _ (hX.trans (by rw [tileT, readCov_tab, readCov_tab]; rfl))) $$ HH
  ihave HT := (slot_split c (Ring.sl 2 t.val) _) $$ HT
  icases HT with ⟨HR, HT0, HT1, HT2, HT3⟩
  ihave HR := (park _) $$ HR
  unfold cellsP
  icases HK with ⟨HC0, HC1, HC2, HC3⟩
  sl_exec
  unfold run_zero.sl.dma0
  ihave HR := (unpark _) $$ HR
  sl_step
  isplitl [HR HC0 HC1 HC2 HC3]
  · unfold inflP
    isplitl [HR]; · iexact HR
    isplitl [HC0]; · iexists g0; iexact HC0
    isplitl [HC1]; · iexists g1; iexact HC1
    isplitl [HC2]; · iexists g2; iexact HC2
    iexists g3; iexact HC3
  isplitl [HS]; · iapply (pointsTo_rep_of_read (c : Thread nD τ) sinM _ fullShare _ (read_tabList _ _ _)); iexact HS
  isplitl [HC]; · iapply (pointsTo_rep_of_read (c : Thread nD τ) cosM _ fullShare _ (read_tabList _ _ _)); iexact HC
  iexists _; iexact HW

end Cert.KernelIdeal.Hand

end
-- ==== Proof.Parts.lean ====
module

public import proofs.«01_k».proof.Proof.Body

/- The output array as the disjoint union of its 64 pieces (16 tiles in 4 batch rows), the staging buffer as its two
   slots, and what the whole output holds when every piece holds its tile. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## Element sets -/

/-- The elements of the output in tile `p.1` of batch row `p.2`. -/
abbrev pieceS (p : Fin 16 × Fin 4) : Finset S4x4096x1024.Idx :=
  (Rect.unit (s := S4x4096x1024) (pieceOff p.2 p.1) S1x256x1024.size (pieceOff_inb p.2 p.1)).set
/-- The elements of the staging buffer in slot `s`. -/
abbrev slotS (s : Fin 2) : Finset S2x256x1024.Idx := (Rect.unit (s := S2x256x1024) (slotOff s) S1x256x1024.size (slotOff_inb s)).set

theorem piece_set (b : Fin 4) (u : Fin 16) : (piece b u).view.set = pieceS (u, b) := by
  unfold piece; exact (View.set_reshape _ _).trans (View.set_slice_whole _ _)
theorem rslot_set (s : Fin 2) : (rslot s).view.set = slotS s := by
  unfold rslot; exact (View.set_reshape _ _).trans (View.set_slice_whole _ _)

/-- An element is in tile `u` of batch row `b` when its batch row is `b` and its row, divided by 256, is `u`. -/
theorem mem_pieceS (p : Fin 16 × Fin 4) (y : S4x4096x1024.Idx) : y ∈ pieceS p ↔ (y 0).val = p.2.val ∧ (y 1).val / 256 = p.1.val := by
  rw [Rect.mem_set_unit]
  have h2 : (y 2).val < 1024 := (y 2).isLt
  constructor
  · intro H
    have a0 : p.2.val ≤ (y 0).val ∧ (y 0).val < p.2.val + 1 := H 0
    have a1 : 256 * p.1.val ≤ (y 1).val ∧ (y 1).val < 256 * p.1.val + 256 := H 1
    omega
  · rintro ⟨h0, h1⟩ a; fin_cases a
    · show p.2.val ≤ (y 0).val ∧ (y 0).val < p.2.val + 1; omega
    · show 256 * p.1.val ≤ (y 1).val ∧ (y 1).val < 256 * p.1.val + 256; omega
    · show 0 ≤ (y 2).val ∧ (y 2).val < 0 + 1024; omega
theorem pieceS_disjoint (p p' : Fin 16 × Fin 4) (hne : p ≠ p') : Disjoint (pieceS p) (pieceS p') := by
  rw [Finset.disjoint_left]; intro y hy hy'; rw [mem_pieceS] at hy hy'
  exact hne (Prod.ext (Fin.ext (by omega)) (Fin.ext (by omega)))
theorem pieceS_cover : Finset.univ.biUnion pieceS = Finset.univ := by
  ext y; simp only [Finset.mem_biUnion, Finset.mem_univ, true_and, iff_true]
  have h1 : (y 1).val < 4096 := (y 1).isLt
  exact ⟨(⟨(y 1).val / 256, by omega⟩, ⟨(y 0).val, (y 0).isLt⟩), (mem_pieceS _ _).2 ⟨rfl, rfl⟩⟩

theorem mem_slotS (s : Fin 2) (y : S2x256x1024.Idx) : y ∈ slotS s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro h a; fin_cases a
    · show s.val ≤ (y 0).val ∧ (y 0).val < s.val + 1; omega
    · show 0 ≤ (y 1).val ∧ (y 1).val < 0 + 256; omega
    · show 0 ≤ (y 2).val ∧ (y 2).val < 0 + 1024; omega
theorem slotS_disjoint (s s' : Fin 2) (hne : s ≠ s') : Disjoint (slotS s) (slotS s') := by
  rw [Finset.disjoint_left]; intro y hy hy'; rw [mem_slotS] at hy hy'; exact hne (Fin.ext (by omega))
theorem slotS_cover : Finset.univ.biUnion slotS = Finset.univ := by
  ext y; simp only [Finset.mem_biUnion, Finset.mem_univ, true_and, iff_true]; exact ⟨y 0, (mem_slotS _ _).2 rfl⟩

/-! ## Splitting and joining -/

variable (c : Dev nD) (X : Fin 16 → Tile F)

abbrev outWhole (f : Buf (Elt F) ((c : Thread nD τ).loc main_v0)) : sProp 𝕄 := ((c : Thread nD τ).loc main_v0) ↦{fullShare} f
abbrev bufWhole (f : Buf (Elt F) ((c : Thread nD τ).loc cc0_scratch0)) : sProp 𝕄 := ((c : Thread nD τ).loc cc0_scratch0) ↦{fullShare} f

/-- The output held whole is its pieces, tile by tile. -/
theorem out_eq (f : Buf (Elt F) ((c : Thread nD τ).loc main_v0)) :
    (outWhole c f : sProp 𝕄) = bigSep Finset.univ (fun u : Fin 16 => iprop(pieceP c 0 u f ∗ pieceP c 1 u f ∗ pieceP c 2 u f ∗ pieceP c 3 u f)) := by
  have e : ∀ b u, (pieceP c b u f : sProp 𝕄) = ((c : Thread nD τ).loc main_v0 ↦[pieceS (u, b)]{fullShare} f) := fun b u => by
    show ((c : Thread nD τ).loc main_v0 ↦[(piece b u).view.set]{fullShare} f : sProp 𝕄) = _
    rw [piece_set]
  refine (Ring.pointsTo_blocks (ℓ := (c : Thread nD τ).loc main_v0) (q := fullShare) pieceS pieceS_disjoint pieceS_cover f).trans ?_
  rw [BI.bigSep_univ_prod]
  refine congrArg (bigSep Finset.univ) (funext fun u => ?_)
  rw [Ring.bigSep_fin4, e, e, e, e]

/-- The output held whole is every tile not yet written. -/
theorem out_split (f : Buf (Elt F) ((c : Thread nD τ).loc main_v0)) : (outWhole c f : sProp 𝕄) ⊢ bigSep Finset.univ (aheadP (F := F) c) := by
  rw [out_eq]
  refine BI.bigSep_mono fun u _ => ?_
  show iprop(pieceP c 0 u f ∗ pieceP c 1 u f ∗ pieceP c 2 u f ∗ pieceP c 3 u f) ⊢ aheadP c u
  unfold aheadP
  iintro ⟨H0, H1, H2, H3⟩
  isplitl [H0]; · iexists f; iexact H0
  isplitl [H1]; · iexists f; iexact H1
  isplitl [H2]; · iexists f; iexact H2
  iexists f; iexact H3

/-- The output whose tile `u` is `X u` in every batch row. -/
def outOf : Buf (Elt F) ((c : Thread nD τ).loc main_v0) := fun (z : S4x4096x1024.Idx) =>
  X ⟨(z 1).val / 256, by have h : (z 1).val < 4096 := (z 1).isLt; omega⟩ (ix2 ⟨(z 1).val % 256, Nat.mod_lt _ (by decide)⟩ (z 2))

theorem piece_read (b : Fin 4) (u : Fin 16) (g : Buf (Elt F) ((piece b u).view.loc (c : Thread nD τ))) (y : S256x1024.Idx) :
    (piece b u).view.read (Elt F) g y = outM.view.read (Elt F) g ((Rect.unit (s := S4x4096x1024) (pieceOff b u) S1x256x1024.size (pieceOff_inb b u)).emb
      (Shape.reshapeEquiv (show S256x1024.numel = S1x256x1024.numel by decide) y)) := rfl

/-- Its pieces hold the tiles. -/
theorem piece_outOf (b : Fin 4) (u : Fin 16) : (piece b u).view.read (Elt F) (outOf c X) = X u := by
  funext y
  refine (piece_read c b u _ y).trans ?_
  have hz : Shape.reshapeEquiv (show S256x1024.numel = S1x256x1024.numel by decide) y = ix3 (n0 := 1) (n1 := 256) (n2 := 1024) 0 (y 0) (y 1) := by
    conv_lhs => rw [eq_ix2 (n0 := 256) (n1 := 1024) y]
    exact ValueIdx.reshapeEquiv_ix2_1ab _ _ _
  rw [hz]
  have hu := u.isLt
  have hy0 : (y 0).val < 256 := (y 0).isLt
  have e1 : ((((Rect.unit (s := S4x4096x1024) (pieceOff b u) S1x256x1024.size (pieceOff_inb b u)).emb (ix3 (n0 := 1) (n1 := 256) (n2 := 1024) 0 (y 0) (y 1))) : S4x4096x1024.Idx) 1).val
      = 256 * u.val + (y 0).val := by show 256 * u.val + 1 * (y 0).val = _; omega
  have e2 : ((((Rect.unit (s := S4x4096x1024) (pieceOff b u) S1x256x1024.size (pieceOff_inb b u)).emb (ix3 (n0 := 1) (n1 := 256) (n2 := 1024) 0 (y 0) (y 1))) : S4x4096x1024.Idx) 2).val
      = (y 1).val := by show 0 + 1 * (y 1).val = _; omega
  generalize (Rect.unit (s := S4x4096x1024) (pieceOff b u) S1x256x1024.size (pieceOff_inb b u)).emb (ix3 (n0 := 1) (n1 := 256) (n2 := 1024) 0 (y 0) (y 1)) = z at e1 e2
  show outOf c X z = X u y
  unfold outOf
  have k1 : (⟨(z 1).val / 256, by have h : (z 1).val < 4096 := (z 1).isLt; omega⟩ : Fin 16) = u := Fin.ext (by show (z 1).val / 256 = _; rw [e1]; omega)
  rw [k1]
  refine congrArg (X u) ?_
  funext a
  match a with
  | ⟨0, _⟩ => exact Fin.ext (by show (z 1).val % 256 = (y 0).val; rw [e1]; omega)
  | ⟨1, _⟩ => exact Fin.ext e2

/-- Every tile written is the output held whole at those tiles. -/
theorem out_join : bigSep Finset.univ (behindP c X) ⊢ (outWhole c (outOf c X) : sProp 𝕄) := by
  rw [out_eq]
  refine BI.bigSep_mono fun u _ => ?_
  have e : ∀ b, (pieceP c b u (outOf c X) : sProp 𝕄) = pieceP c b u ((piece b u).view.rep (X u)) := fun b =>
    (pointsTo_rep (c : Thread nD τ) (piece b u) (outOf c X) fullShare).trans (by rw [piece_outOf])
  show behindP c X u ⊢ iprop(pieceP c 0 u (outOf c X) ∗ pieceP c 1 u (outOf c X) ∗ pieceP c 2 u (outOf c X) ∗ pieceP c 3 u (outOf c X))
  unfold behindP
  rw [e, e, e, e]

theorem slot_eq_sub (s : Fin 2) (f : Buf (Elt F) ((c : Thread nD τ).loc cc0_scratch0)) :
    (slotP c s fullShare f : sProp 𝕄) = ((c : Thread nD τ).loc cc0_scratch0 ↦[slotS s]{fullShare} f) := by
  show ((c : Thread nD τ).loc cc0_scratch0 ↦[(rslot s).view.set]{fullShare} f : sProp 𝕄) = _
  rw [rslot_set]

/-- The staging buffer held whole is its two slots; -/
theorem buf_split : iprop(∃ f, bufWhole (F := F) c f) ⊢ (iprop((∃ f, slotP (F := F) c 0 fullShare f) ∗ (∃ f, slotP (F := F) c 1 fullShare f)) : sProp 𝕄) := by
  iintro ⟨%f, H⟩
  ihave H2 := (Entails.of_eq ((Ring.pointsTo_blocks (ℓ := (c : Thread nD τ).loc cc0_scratch0) (q := fullShare) slotS slotS_disjoint slotS_cover f).trans
    ((Ring.bigSep_fin2 _).trans (by rw [← slot_eq_sub, ← slot_eq_sub])))) $$ H
  icases H2 with ⟨H0, H1⟩
  isplitl [H0]; · iexists f; iexact H0
  iexists f; iexact H1
/-- and back. -/
theorem buf_join : (iprop((∃ f, slotP (F := F) c 0 fullShare f) ∗ (∃ f, slotP (F := F) c 1 fullShare f)) : sProp 𝕄) ⊢ iprop(∃ f, bufWhole (F := F) c f) := by
  refine BIBase.Entails.trans ?_ (Ring.pointsTo_blocks_join_exists (ℓ := (c : Thread nD τ).loc cc0_scratch0) (q := fullShare) slotS slotS_disjoint slotS_cover bufM.view.junk)
  rw [Ring.bigSep_fin2]
  iintro ⟨⟨%f, H0⟩, ⟨%g, H1⟩⟩
  isplitl [H0]
  · iexists f; iapply (Entails.of_eq (slot_eq_sub c 0 f)); iexact H0
  · iexists g; iapply (Entails.of_eq (slot_eq_sub c 1 g)); iexact H1

end Cert.KernelIdeal.Hand

end
-- ==== Proof.Launch.lean ====
module

public import proofs.«01_k».proof.Proof.Parts
public import Idealize.ShloMosaic.Lib.Pipeline.KitQuiescent

/- The kernel's launch: the invariant that its points keep, the body obligation in four cases (the first point, the second,
   a later one, the last), and the run of the whole program: its output, its argument and its counters at the end. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

abbrev EP : Emb (UR sig nD τ) (MT nD τ sig Unit (Elt F) ℕ (UU nD τ) ℕ) := embL

/-- The eight completion cells, slot by slot. -/
abbrev osem : Fin 8 → SemLoc sig := fun k => .dma (csm (Fin.ofNat 2 (k.val / 4)) (Fin.ofNat 4 k.val)).sem
theorem ownSemFacts : Pipeline.OwnSemFacts (cfgs 0).spec osem := by decide

theorem osem_eq (k : Fin 8) (s : Fin 2) (b : Fin 4) (hs : Fin.ofNat 2 (k.val / 4) = s) (hb : Fin.ofNat 4 k.val = b) : osem k = .dma (csm s b).sem := by
  subst hs hb; rfl

theorem ownSems0_eq (c : Dev nD) :
    (Pipeline.ownSems0 (Ix := Unit) (Name := ℕ) (U := UU nD τ) (Lvl := ℕ) (Val := Elt F) (τ := τ) osem c : sProp 𝕄)
      = iprop(cellP c 0 0 ∗ cellP c 0 1 ∗ cellP c 0 2 ∗ cellP c 0 3 ∗ cellP c 1 0 ∗ cellP c 1 1 ∗ cellP c 1 2 ∗ cellP c 1 3) := by
  unfold Pipeline.ownSems0
  rw [bigSep_univ_eq_bigSepL [0, 1, 2, 3, 4, 5, 6, 7] (by decide) (by decide)]
  show iprop(semVal ((c : Thread nD τ), osem 0) 0 ∗ semVal ((c : Thread nD τ), osem 1) 0 ∗ semVal ((c : Thread nD τ), osem 2) 0 ∗ semVal ((c : Thread nD τ), osem 3) 0
    ∗ semVal ((c : Thread nD τ), osem 4) 0 ∗ semVal ((c : Thread nD τ), osem 5) 0 ∗ semVal ((c : Thread nD τ), osem 6) 0 ∗ semVal ((c : Thread nD τ), osem 7) 0) = _
  rw [osem_eq 0 0 0 rfl rfl, osem_eq 1 0 1 rfl rfl, osem_eq 2 0 2 rfl rfl, osem_eq 3 0 3 rfl rfl,
    osem_eq 4 1 0 rfl rfl, osem_eq 5 1 1 rfl rfl, osem_eq 6 1 2 rfl rfl, osem_eq 7 1 3 rfl rfl]

/-! ## The tiles -/

/-- What tile `u` of the output holds: the tile computed from the two tables, its first row zeros in tile 0. -/
def tileX (u : Fin 16) : Tile F :=
  if u.val = 0 then headZ (tileT (grid0.coords ⟨u.val, by rw [N_0]; exact u.isLt⟩)) else tileT (grid0.coords ⟨u.val, by rw [N_0]; exact u.isLt⟩)

theorem tileX_bk (t : Fin grid0.N) : tileX (F := F) (Ring.bk 16 t.val) = if t.val = 0 then headZ (tileT (grid0.coords t)) else tileT (grid0.coords t) := by
  have h : (Ring.bk 16 t.val).val = t.val := Ring.bk_val (lt16 t)
  unfold tileX
  have e : (⟨(Ring.bk 16 t.val).val, Nat.lt_of_lt_of_eq (Ring.bk 16 t.val).isLt N_0.symm⟩ : Fin grid0.N) = t := Fin.ext h
  rw [e, h]

/-- The table of sines, and of cosines, as the first point leaves them. -/
abbrev SS (c : Dev nD) : Buf (Elt F) (sinM.view.loc (c : Thread nD τ)) := sinM.view.rep sinT
abbrev CC (c : Dev nD) : Buf (Elt F) (cosM.view.loc (c : Thread nD τ)) := cosM.view.rep cosT

theorem tileOf_tables (c : Dev nD) (i : grid0.Coords) : tileOf (F := F) c i (SS c) (CC c) = tileT i := by
  unfold tileOf tileT
  rw [View.readAt_rep_full, View.readAt_rep_full]

theorem hX_later (c : Dev nD) (t : Fin grid0.N) (h : t.val ≠ 0) : tileX (F := F) (Ring.bk 16 t.val) = tileOf c (grid0.coords t) (SS c) (CC c) := by
  rw [tileX_bk, if_neg h, tileOf_tables]
theorem hX_first (t : Fin grid0.N) (h : t.val = 0) : tileX (F := F) (Ring.bk 16 t.val) = headZ (tileT (grid0.coords t)) := by
  rw [tileX_bk, if_pos h]

/-! ## The invariant -/

/-- The tables: anything before the first point, then built. -/
def tabsP (c : Dev nD) (p : ℕ) : sProp 𝕄 :=
  if p = 0 then iprop((∃ f, sinP c f) ∗ (∃ f, cosP c f)) else iprop(sinP c (SS c) ∗ cosP c (CC c))
theorem tabsP_zero (c : Dev nD) (p : ℕ) (h : p = 0) : (tabsP c p : sProp 𝕄) = iprop((∃ f, sinP c f) ∗ (∃ f, cosP c f)) := if_pos h
theorem tabsP_pos (c : Dev nD) (p : ℕ) (h : p ≠ 0) : (tabsP c p : sProp 𝕄) = iprop(sinP c (SS c) ∗ cosP c (CC c)) := if_neg h

/-- The tiles of the output and the slots of the staging buffer when point `p` begins. -/
abbrev ringP (c : Dev nD) (p : ℕ) : sProp 𝕄 := Ring.AtBΦ 2 (freeP c) (inflP c tileX) (aheadP c) (behindP c tileX) p

def Φ (c : Dev nD) (p : ℕ) : sProp 𝕄 := iprop(ringP c p ∗ tabsP c p)

abbrev owesP (c : Dev nD) : sProp 𝕄 := iprop(∃ W, owes (c : Thread nD τ) 0 W)

/-- The body of a point, at its weakest precondition. -/
abbrev bodyWp (c : Dev nD) (t : Fin grid0.N) (Q : sProp 𝕄) : sProp 𝕄 :=
  wp frame (wpE (defs₀ (F := F)) 𝒱₀ (c : Thread nD τ) none) Set.univ (bodyAt0 (F := F) t) (fun _ => Q)

theorem step_zero (c : Dev nD) (t : Fin grid0.N) (h : t.val = 0) :
    iprop(Φ c t.val ∗ owesP c) ⊢ (bodyWp c t iprop(Φ c (t.val + 1) ∗ owesP c) : sProp 𝕄) := by
  unfold Φ ringP
  rw [tabsP_zero c _ h, tabsP_pos c (t.val + 1) (by omega), Ring.AtBΦ_lt _ _ _ _ _ t.val (lt16 t), Ring.AtB2_zero' 2 _ _ _ _ t.val h,
    Ring.AtBΦ_lt _ _ _ _ _ (t.val + 1) (by omega), Ring.AtB22_next_zero' _ _ _ _ t.val h]
  iintro ⟨⟨⟨⟨Ha, HA⟩, Hf0, Hf1⟩, HS, HC⟩, HW⟩
  iapply (wp_wand_r frame (wpE (defs₀ (F := F)) 𝒱₀ (c : Thread nD τ) none) Set.univ)
  isplitl [Ha Hf0 HS HC HW]
  · iapply (run_zero c tileX t h (hX_first t h))
    isplitl [Hf0]; · iexact Hf0
    isplitl [Ha]; · iexact Ha
    isplitl [HS]; · iexact HS
    isplitl [HC]; · iexact HC
    iexact HW
  · iintro %_ ⟨Hi, HS, HC, HW⟩
    isplitr [HW]
    · isplitl [HA Hf1 Hi]
      · isplitl [HA]; · iexact HA
        isplitl [Hf1]; · iexact Hf1
        iexact Hi
      isplitl [HS]; · iexact HS
      iexact HC
    iexact HW

theorem step_one (c : Dev nD) (t : Fin grid0.N) (h : t.val = 1) :
    iprop(Φ c t.val ∗ owesP c) ⊢ (bodyWp c t iprop(Φ c (t.val + 1) ∗ owesP c) : sProp 𝕄) := by
  unfold Φ ringP
  rw [tabsP_pos c _ (by omega), tabsP_pos c (t.val + 1) (by omega), Ring.AtBΦ_lt _ _ _ _ _ t.val (lt16 t), Ring.AtB22_one' _ _ _ _ t.val h (by decide),
    Ring.AtBΦ_lt _ _ _ _ _ (t.val + 1) (by omega), Ring.AtB22_next_one' _ _ _ _ t.val h]
  iintro ⟨⟨⟨⟨Ha, HA⟩, Hf, Hi0⟩, HS, HC⟩, HW⟩
  iapply (wp_wand_r frame (wpE (defs₀ (F := F)) 𝒱₀ (c : Thread nD τ) none) Set.univ)
  isplitl [Ha Hf HS HC HW]
  · iapply (run_one c tileX (SS c) (CC c) t h (hX_later c t (by omega)))
    isplitl [Hf]; · iexact Hf
    isplitl [Ha]; · iexact Ha
    isplitl [HS]; · iexact HS
    isplitl [HC]; · iexact HC
    iexact HW
  · iintro %_ ⟨Hi, HS, HC, HW⟩
    isplitr [HW]
    · isplitl [HA Hi0 Hi]
      · isplitl [HA]; · iexact HA
        isplitl [Hi0]; · iexact Hi0
        iexact Hi
      isplitl [HS]; · iexact HS
      iexact HC
    iexact HW

theorem step_mid (c : Dev nD) (t : Fin grid0.N) (h2 : 2 ≤ t.val) (h15 : t.val ≠ 15) :
    iprop(Φ c t.val ∗ owesP c) ⊢ (bodyWp c t iprop(Φ c (t.val + 1) ∗ owesP c) : sProp 𝕄) := by
  have ht := lt16 t
  unfold Φ ringP
  rw [tabsP_pos c _ (by omega), tabsP_pos c (t.val + 1) (by omega), Ring.AtBΦ_lt _ _ _ _ _ t.val (lt16 t), Ring.AtB22_here _ _ _ _ t.val h2 ht,
    Ring.AtBΦ_lt _ _ _ _ _ (t.val + 1) (by omega), Ring.AtB22_next _ _ _ _ t.val h2 (by omega)]
  iintro ⟨⟨⟨⟨Ha, HA⟩, HB, Hi, Hi1⟩, HS, HC⟩, HW⟩
  iapply (wp_wand_r frame (wpE (defs₀ (F := F)) 𝒱₀ (c : Thread nD τ) none) Set.univ)
  isplitl [Ha Hi HS HC HW]
  · iapply (run_mid c tileX (SS c) (CC c) t h2 h15 (hX_later c t (by omega)))
    isplitl [Hi]; · iexact Hi
    isplitl [Ha]; · iexact Ha
    isplitl [HS]; · iexact HS
    isplitl [HC]; · iexact HC
    iexact HW
  · iintro %_ ⟨Hi, Hb, HS, HC, HW⟩
    isplitr [HW]
    · isplitl [HA HB Hb Hi1 Hi]
      · isplitl [HA]; · iexact HA
        isplitl [HB Hb]
        · isplitl [Hb]; · iexact Hb
          iexact HB
        isplitl [Hi1]; · iexact Hi1
        iexact Hi
      isplitl [HS]; · iexact HS
      iexact HC
    iexact HW

theorem step_last (c : Dev nD) (t : Fin grid0.N) (h : t.val = 15) :
    iprop(Φ c t.val ∗ owesP c) ⊢ (bodyWp c t iprop(Φ c (t.val + 1) ∗ owesP c) : sProp 𝕄) := by
  unfold Φ ringP
  rw [tabsP_pos c _ (by omega), tabsP_pos c (t.val + 1) (by omega), Ring.AtBΦ_lt _ _ _ _ _ t.val (lt16 t), Ring.AtB22_here_last _ _ _ _ t.val (by omega) (by omega),
    Ring.AtBΦ_end _ _ _ _ _ (t.val + 1) (by omega), Ring.AtB22_drained _ _ t.val (by omega) (by omega)]
  iintro ⟨⟨⟨Ha, HB, Hi, Hi1⟩, HS, HC⟩, HW⟩
  iapply (wp_wand_r frame (wpE (defs₀ (F := F)) 𝒱₀ (c : Thread nD τ) none) Set.univ)
  isplitl [Ha Hi Hi1 HS HC HW]
  · iapply (run_last c tileX (SS c) (CC c) t h (hX_later c t (by omega)))
    isplitl [Hi]; · iexact Hi
    isplitl [Hi1]; · iexact Hi1
    isplitl [Ha]; · iexact Ha
    isplitl [HS]; · iexact HS
    isplitl [HC]; · iexact HC
    iexact HW
  · iintro %_ ⟨⟨Hb, Hb2, Hb1⟩, Hf0, Hf1, HS, HC, HW⟩
    isplitr [HW]
    · isplitl [HB Hb Hb2 Hb1 Hf0 Hf1]
      · isplitl [HB Hb Hb2 Hb1]
        · isplitl [Hb]; · iexact Hb
          isplitl [Hb2]; · iexact Hb2
          isplitl [Hb1]; · iexact Hb1
          iexact HB
        isplitl [Hf0]; · iexact Hf0
        iexact Hf1
      isplitl [HS]; · iexact HS
      iexact HC
    iexact HW

/-- A point keeps the invariant. -/
theorem step (c : Dev nD) (t : Fin grid0.N) :
    iprop(Φ c t.val ∗ owesP c) ⊢ (bodyWp c t iprop(Φ c (t.val + 1) ∗ owesP c) : sProp 𝕄) := by
  by_cases h0 : t.val = 0
  · exact step_zero c t h0
  by_cases h1 : t.val = 1
  · exact step_one c t h1
  by_cases h15 : t.val = 15
  · exact step_last c t h15
  exact step_mid c t (by omega) h15

/-! ## The launch -/

section Launch

variable (m : (ℓ : Loc nD τ sig) → Buf (Elt F) ℓ) (ρ : Dev nD → PrngReg)

def dats (_ : Fin 1) (c : Dev nD) : Dat τ (Elt F) Unit ℕ (UU nD τ) ℕ cfg0 c where
  A w := w.elim0
  after w _ := w.elim0
  Φ p := Φ c p.val
  q _ := fullShare
  owed _ := 0

theorem defs_tc : (defs₀ (F := F)) .tc cfg0.body = fun a => bodyAt0 a.1 := rfl
theorem prog_eq (t : Fin cfg0.N) : (defs₀ (F := F)) .tc cfg0.body (cfg0.bodyArgs t (cfg0.slots t)) = bodyAt0 (F := F) t :=
  (congrFun defs_tc _).trans rfl

theorem bigSep_none {w : Fin cfg0.W → sProp 𝕄} : bigSep Finset.univ w = (BI.emp : sProp 𝕄) := by
  rw [show (Finset.univ : Finset (Fin cfg0.W)) = ∅ from rfl]; rfl

set_option backward.isDefEq.respectTransparency.types false in
theorem body_obligation (c : Dev nD) : BodyObligation (dats (F := F) 0 c) (defs₀ (F := F)) 𝒱₀ () Set.univ := fun t => by
  rw [bigSep_none, bigSep_none]
  rw [show (dats (F := F) 0 c).Φ t.castSucc = Φ c t.val from rfl, show (dats (F := F) 0 c).Φ t.succ = Φ c (t.val + 1) from rfl]
  unfold Dat.owesAt Pipeline.owesWithin
  rw [show (dats (F := F) 0 c).owed t.castSucc = 0 from rfl, show (dats (F := F) 0 c).owed t.succ = 0 from rfl]
  sl_rw [prog_eq t]
  iintro ⟨HΦ, ⟨%W, -, HW⟩, -⟩
  iapply (wp_wand_r frame (wpE (defs₀ (F := F)) 𝒱₀ (c : Thread nD τ) none) Set.univ)
  isplitl [HΦ HW]
  · iapply (step c t)
    isplitl [HΦ]; · iexact HΦ
    iexists W; iexact HW
  · iintro %_ ⟨HΦ, ⟨%W', HW⟩⟩
    isplitl [HΦ]; · iexact HΦ
    isplitl [HW]
    · iexists W'; isplitr; · ipureintro; exact fun _ _ => Or.inl trivial
      iexact HW
    iempintro

def intoΦ (c : Dev nD) : sProp 𝕄 := iprop(outWhole c (m ((c : Thread nD τ).loc main_v0)) ∗ Pipeline.ownSems0 osem c)
def argP (c : Dev nD) : sProp 𝕄 := ((c : Thread nD τ).loc main_arg0) ↦{fullShare} m ((c : Thread nD τ).loc main_arg0)
def outOfΦ (c : Dev nD) : sProp 𝕄 := outWhole c (outOf c tileX)
def u₀ : UU nD τ := (initOf (Pipeline.cells cfgs Cert.KernelIdeal.Gen.cellOf_inj) (Pipeline.launchToks cfgs Cert.KernelIdeal.Gen.cellOf_inj), 1)
/-- At the end, on core `c`: the output holds every tile in every batch row, and the argument is as it was. -/
def QY (c : Dev nD) (s : MemSt nD τ sig (Elt F)) : Prop :=
  s.mem ((c : Thread nD τ).loc main_v0) = outOf c tileX ∧ s.mem ((c : Thread nD τ).loc main_arg0) = m ((c : Thread nD τ).loc main_arg0)

theorem enter (c : Dev nD) : iprop(intoΦ m c ∗ Pipeline.scopedRest (Ix := Unit) (Name := ℕ) (U := UU nD τ) (Lvl := ℕ) (Val := Elt F) (cfg0.spec) c) ⊢ (Φ c 0 : sProp 𝕄) := by
  unfold intoΦ Φ ringP
  rw [scopedRest0_eq, ownSems0_eq, tabsP_zero c 0 rfl, Ring.AtBΦ_lt _ _ _ _ _ 0 (by decide), Ring.AtB_zero]
  unfold Ring.AtB₀
  rw [Ring.bigSep_fin2 (freeP c)]
  unfold freeP cellsP
  iintro ⟨⟨HO, K0, K1, K2, K3, K4, K5, K6, K7⟩, HB, HS, HC⟩
  ihave HO' := (out_split c _) $$ HO
  ihave HB' := (buf_split c) $$ HB
  icases HB' with ⟨HB0, HB1⟩
  isplitr [HS HC]
  · isplitl [HO']; · iexact HO'
    isplitl [HB0 K0 K1 K2 K3]
    · isplitl [HB0]; · iexact HB0
      isplitl [K0]; · iexact K0
      isplitl [K1]; · iexact K1
      isplitl [K2]; · iexact K2
      iexact K3
    · isplitl [HB1]; · iexact HB1
      isplitl [K4]; · iexact K4
      isplitl [K5]; · iexact K5
      isplitl [K6]; · iexact K6
      iexact K7
  unfold sinP cosP
  rw [show sinM.view.set = Finset.univ from View.set_whole _, show cosM.view.set = Finset.univ from View.set_whole _]
  isplitl [HS]; · iexact HS
  iexact HC

theorem leave (c : Dev nD) : (Φ c 16 : sProp 𝕄)
    ⊢ iprop(outOfΦ c ∗ Pipeline.ownSems0 osem c ∗ Pipeline.scopedRest (Ix := Unit) (Name := ℕ) (U := UU nD τ) (Lvl := ℕ) (Val := Elt F) (cfg0.spec) c) := by
  unfold outOfΦ Φ ringP
  rw [scopedRest0_eq, ownSems0_eq, tabsP_pos c 16 (by decide), Ring.AtBΦ_end _ _ _ _ _ 16 rfl]
  unfold Ring.AtBEnd
  rw [Ring.bigSep_fin2 (freeP c)]
  unfold freeP cellsP sinP cosP
  rw [show sinM.view.set = Finset.univ from View.set_whole _, show cosM.view.set = Finset.univ from View.set_whole _]
  iintro ⟨⟨HO, ⟨HB0, K0, K1, K2, K3⟩, HB1, K4, K5, K6, K7⟩, HS, HC⟩
  isplitl [HO]; · iapply (out_join c tileX); iexact HO
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [HB0 HB1]
  · iapply (buf_join c)
    isplitl [HB0]; · iexact HB0
    iexact HB1
  isplitl [HS]; · iexists _; iexact HS
  iexists _; iexact HC

set_option backward.isDefEq.respectTransparency.types false in
/-- From any memory with zero counters: every weakly fair execution of the program terminates, and at the end the output
    holds the tiles, the argument is unchanged and every counter is zero. -/
theorem run_main : θ_run defs (onTc (τ := τ) (main (F := F))) (s₀ m ρ) (fun r => (∀ c : Dev nD, QY m c r.2) ∧ r.2.sem = fun _ => 0) :=
  Pipeline.θ_run_region_kit_quiescent cfgs dats () (0 : Fin 1) launch0 ownSemFacts EP defs₀ 𝒱₀ m ρ main
    (hbody := fun c => (body_obligation c).loose) (hshare := fun c => (dats 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ) (Z := argP m)
    (hX := fun c => by
      rw [unscopedRest0_eq]
      unfold intoΦ argP
      iintro ⟨⟨H0, HO⟩, HS, -, -, -⟩; imodintro
      isplitl [HO HS]
      · isplitl [HO]; · iexact HO
        iexact HS
      iexact H0)
    (hin := fun c => enter m c)
    (hout := fun c => leave c)
    (QY := QY m)
    (hY := fun c s' => by
      unfold outOfΦ argP outWhole
      iintro ⟨HO, H0, HSI⟩
      icombine HSI H0 gives %h0
      icombine HSI HO gives %h1
      imodintro
      isplitr; · ipureintro; exact ⟨Buf.eq_of_forall_mem_univ h1, Buf.eq_of_forall_mem_univ h0⟩
      iexact HSI)
    (hQ := fun _ hh hz => ⟨fun c => (hh c).2, hz⟩)

end Launch

end Cert.KernelIdeal.Hand

end
-- ==== Proof.Frames.lean ====
/-
  The claims that speak of no values: each program terminates, leaves its argument as it was and every semaphore at
  zero, and the exact form differs from the program by its named constant alone.
-/
module

public import proofs.«01_k».proof.Proof.Launch
public import proofs.«01_k».proof.Proof.Gen.Kernel.Launch
public import proofs.«01_k».proof.Proof.Gen.ReferenceIdeal.Run
public import Idealize.ShloMosaic.Lib.Quiescent

@[expose] public section

noncomputable section

namespace Cert.Frames

open Idealize.ShloMosaic Idealize.SL.Sem

/-- At bits a named constant is the word it is written with. -/
instance named : Named Bits where
  named _ _ {φ} bits := Scalar.ofBits φ bits

/-- The program's frame: at bits it is its exact form, whose one named constant is read there as its word. -/
theorem frame_P : Cert.quiescent_Kernel := fun m ρ _ =>
  (θ_run Cert.KernelIdeal.defs _ _).mono (fun _ h => ⟨fun c => (h.1 c).2, h.2⟩)
    (Cert.KernelIdeal.Hand.run_main (F := Bits) m ρ)

/-- The exact form's frame. -/
theorem frame_PI : Cert.quiescent_KernelIdeal := fun m ρ _ =>
  (θ_run Cert.KernelIdeal.defs _ _).mono (fun _ h => ⟨fun c => (h.1 c).2, h.2⟩)
    (Cert.KernelIdeal.Hand.run_main (F := Ideal) m ρ)

/-- The reference's frame: it starts no copy, so its semaphores stay as they were. -/
theorem frame_RI : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constant denotes `-ln 10000 / 512`, and at bits it is the kernel's own word. -/
theorem preserves_P_PI : Cert.preserves_Kernel_KernelIdeal :=
  IdealRules.named_const.statement Cert.KernelIdeal.κ "neg2ln1e4" .f32 0xBC935D8E#32
    (((-(Real.log 10000)) * (1 / 512) : ℝ) : EReal) rfl

end Cert.Frames
-- ==== Proof.Consts.lean ====
/-
  The float constants of the two programs over the reals, and the kernel's named one.
-/
module

public import proofs.«01_k».proof.Defs
public import Idealize.ShloMosaic.PureOps.Ideal.Laws

@[expose] public section

noncomputable section

namespace Cert.Value

open Idealize.ShloMosaic

theorem two : Ideal.ofBits .f32 0x40000000#32 = ((2 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem thirtyTwo : Ideal.ofBits .f32 0x42000000#32 = ((32 : ℝ) : EReal) := by
  simp [Ideal.ofBits, Ideal.ieee, -EReal.coe_mul]; norm_num
theorem units : Ideal.ofBits .f32 0x44800000#32 = ((1024 : ℝ) : EReal) := by
  simp [Ideal.ofBits, Ideal.ieee, -EReal.coe_mul]; norm_num
theorem base : Ideal.ofBits .f32 0x461C4000#32 = ((10000 : ℝ) : EReal) := by
  simp [Ideal.ofBits, Ideal.ieee, -EReal.coe_mul]; norm_num

/-- The named constant over the reals: `-ln 10000 / 512`. -/
theorem neg2ln1e4 : Named.named (F := Ideal) Cert.KernelIdeal.κ "neg2ln1e4" (φ := .f32) 0xBC935D8E#32
    = (((-(Real.log 10000)) * (1 / 512) : ℝ) : EReal) :=
  IdealRules.named_const.ideal_named_scalar _ _ _ _ rfl

end Cert.Value
-- ==== Proof.Encoding.lean ====
/-
  The encoded table both programs compute over the reals, and the words of small numbers.
-/
module

public import proofs.«01_k».proof.Proof.Consts
public import Idealize.ShloMosaic.Lib.Pointwise

@[expose] public section

noncomputable section

namespace Cert.Value

open Idealize.ShloMosaic

/-- The frequency of column `c`: `10000` to the power `-2c/1024`. -/
def freq (c : Nat) : ℝ := Real.exp (c * (-(Real.log 10000) * (1 / 512)))
/-- The encoding of position `p` in column `c`: the sine in the even columns, the cosine in the odd ones, times 32. -/
def enc (p c : Nat) : ℝ := (if c % 2 = 0 then Real.sin (p * freq c) else Real.cos (p * freq c)) * 32
/-- The encoded table, its row of position zero made zero. -/
def table (p c : Nat) : EReal := if p = 0 then 0 else ((enc p c : ℝ) : EReal)

/-- A small number's word, read signed, is the number. -/
theorem toInt_nat (n : Nat) (h : n < 2 ^ 31) : (BitVec.ofNat 32 n).toInt = (n : Int) := by
  rw [BitVec.toInt_ofNat', Int.bmod_eq_of_le (by omega) (by omega)]

/-- A small number's word, converted, is the number. -/
theorem sitofp_nat (n : Nat) (h : n < 2 ^ 31) : FloatOps.sitofp (F := Ideal) FTy.f32 (BitVec.ofNat 32 n) = ((n : ℝ) : EReal) := by
  show ((((BitVec.ofNat 32 n).toInt : ℝ)) : EReal) = _
  rw [toInt_nat n h, Int.cast_natCast]

/-- A choice on the last bit of a number's word is a choice on the number's parity. -/
theorem select_even {α : Type} (n : Nat) (h : n < 2 ^ 31) (a b : α) :
    Scalar.select (IntOp.cmpi CmpIPredicate.eq (IntOp.andi (BitVec.ofNat 32 n) 1#32) 0#32) a b = if n % 2 = 0 then a else b := by
  have e : (BitVec.ofNat 32 n &&& 1#32) = BitVec.ofNat 32 (n % 2) := by
    apply BitVec.eq_of_toNat_eq
    simp [BitVec.toNat_and, Nat.and_one_is_mod]
    omega
  show Scalar.select (BitVec.ofBool ((BitVec.ofNat 32 n &&& 1#32) == 0#32)) a b = _
  rw [e]
  rcases Nat.mod_two_eq_zero_or_one n with h0 | h0 <;> rw [h0] <;> rfl

end Cert.Value
-- ==== Proof.KernelValue.lean ====
/-
  What the kernel leaves, over the reals: 32 times the sine or the cosine of the row's angle.
-/
module

public import proofs.«01_k».proof.Proof.Encoding
public import proofs.«01_k».proof.Proof.Launch

@[expose] public section

noncomputable section

namespace Cert.Value

open Idealize.ShloMosaic Cert.KernelIdeal Cert.KernelIdeal.Gen Cert.KernelIdeal.Hand

theorem w_apply (c : Fin 1024) : k0_pay71 (F := Ideal) (ix2 (0 : Fin 1) c) = ((freq c.val : ℝ) : EReal) := by
  pointwise [k0_pay71]
  rw [neg2ln1e4, sitofp_nat _ (by omega), ← EReal.coe_mul]
  rfl

theorem finSin (r : Fin 16) (c : Fin 1024) :
    k0_pay2 (F := Ideal) k0_pay71 (ix2 r c) = ((Real.sin (r.val * freq c.val) : ℝ) : EReal) := by
  pointwise [k0_pay2, k0_pay1]
  rw [w_apply, sitofp_nat _ (by omega), ← EReal.coe_mul, Ideal.sin_coe]
theorem finCos (r : Fin 16) (c : Fin 1024) :
    k0_pay3 (F := Ideal) k0_pay71 (ix2 r c) = ((Real.cos (r.val * freq c.val) : ℝ) : EReal) := by
  pointwise [k0_pay3, k0_pay1]
  rw [w_apply, sitofp_nat _ (by omega), ← EReal.coe_mul, Ideal.cos_coe]
theorem midSin (m : Fin 16) (c : Fin 1024) :
    k0_pay5 (F := Ideal) k0_pay71 (ix2 m c) = ((Real.sin (m.val * (freq c.val * 16)) : ℝ) : EReal) := by
  pointwise [k0_pay5, k0_pay4]
  rw [w_apply, sitofp_nat _ (by omega), sixteen, ← EReal.coe_mul, ← EReal.coe_mul, Ideal.sin_coe]
theorem midCos (m : Fin 16) (c : Fin 1024) :
    k0_pay6 (F := Ideal) k0_pay71 (ix2 m c) = ((Real.cos (m.val * (freq c.val * 16)) : ℝ) : EReal) := by
  pointwise [k0_pay6, k0_pay4]
  rw [w_apply, sitofp_nat _ (by omega), sixteen, ← EReal.coe_mul, ← EReal.coe_mul, Ideal.cos_coe]

/-- Block `m` of the sine table: the sine of the sum of the two angles. -/
theorem sinBlk_apply (m r : Fin 16) (c : Fin 1024) :
    sinBlk (F := Ideal) m (ix2 r c) = ((Real.sin (((16 * m.val + r.val : Nat) : ℝ) * freq c.val) : ℝ) : EReal) := by
  pointwise [sinBlk, spread]
  rw [finSin, finCos, midSin, midCos, ← EReal.coe_mul, ← EReal.coe_mul, ← EReal.coe_add, ← Real.sin_add]
  congr 2
  push_cast
  ring
/-- Block `m` of the cosine table: the cosine of the sum of the two angles. -/
theorem cosBlk_apply (m r : Fin 16) (c : Fin 1024) :
    cosBlk (F := Ideal) m (ix2 r c) = ((Real.cos (((16 * m.val + r.val : Nat) : ℝ) * freq c.val) : ℝ) : EReal) := by
  pointwise [cosBlk, spread]
  rw [finSin, finCos, midSin, midCos, ← EReal.coe_mul, ← EReal.coe_mul, ← EReal.coe_sub, ← Real.cos_add]
  congr 2
  push_cast
  ring

theorem sinT_apply (r : Fin 256) (c : Fin 1024) :
    sinT (F := Ideal) (ix2 r c) = ((Real.sin ((r.val : ℝ) * freq c.val) : ℝ) : EReal) := by
  refine (sinBlk_apply ⟨r.val / 16, by omega⟩ ⟨r.val % 16, by omega⟩ c).trans ?_
  rw [show 16 * (r.val / 16) + r.val % 16 = r.val by omega]
theorem cosT_apply (r : Fin 256) (c : Fin 1024) :
    cosT (F := Ideal) (ix2 r c) = ((Real.cos ((r.val : ℝ) * freq c.val) : ℝ) : EReal) := by
  refine (cosBlk_apply ⟨r.val / 16, by omega⟩ ⟨r.val % 16, by omega⟩ c).trans ?_
  rw [show 16 * (r.val / 16) + r.val % 16 = r.val by omega]

/-- The tile of grid point `u` before its first row is cleared: the encoding of positions `256u … 256u + 255`. -/
theorem tileT_apply (i : grid0.Coords) (u : Nat) (hi : (i 0).val = u) (hu : u < 16) (r : Fin 256) (c : Fin 1024) :
    tileT (F := Ideal) i (ix2 r c) = ((enc (256 * u + r.val) c.val : ℝ) : EReal) := by
  pointwise [k0_pay78]
  have ew : Scalar.muli (BitVec.ofNat 32 (i 0).val) 256#32 = BitVec.ofNat 32 (u * 256) := by
    rw [hi, BitVec.ofNat_mul]; rfl
  have ef : ((((Scalar.muli (BitVec.ofNat 32 (i 0).val) 256#32).toInt : ℝ)) : EReal) = (((u * 256 : Nat) : ℝ) : EReal) := by
    rw [ew]; exact sitofp_nat _ (by omega)
  rw [select_even _ (by omega), select_even _ (by omega), ef, w_apply, sinT_apply, cosT_apply, thirtyTwo, ← EReal.coe_mul,
    Ideal.sin_coe, Ideal.cos_coe]
  unfold enc
  rw [show (((256 * u + r.val : Nat) : ℝ) * freq c.val) = ((u * 256 : Nat) : ℝ) * freq c.val + (r.val : ℝ) * freq c.val by push_cast; ring,
    Real.sin_add, Real.cos_add]
  split
  · simp only [← EReal.coe_mul, ← EReal.coe_add]
    congr 1
    ring
  · rw [← EReal.coe_zero]
    simp only [← EReal.coe_mul, ← EReal.coe_add, ← EReal.coe_sub]
    congr 1
    ring

/-- Every entry of the kernel's result. -/
theorem kernel_value (cd : Dev nD) (b : Fin 4) (p : Fin 4096) (c : Fin 1024) :
    outOf (F := Ideal) cd tileX (ix3 b p c) = table p.val c.val := by
  show tileX (F := Ideal) ⟨p.val / 256, _⟩ (ix2 ⟨p.val % 256, _⟩ c) = _
  unfold tileX table
  have e := tileT_apply (grid0.coords ⟨p.val / 256, Nat.lt_of_lt_of_eq (by omega) N_0.symm⟩) (p.val / 256) (coords_val _) (by omega)
    ⟨p.val % 256, by omega⟩ c
  rw [show 256 * (p.val / 256) + p.val % 256 = p.val by omega] at e
  by_cases h0 : p.val / 256 = 0
  · rw [if_pos h0]
    by_cases h1 : p.val % 256 = 0
    · rw [if_pos (by omega)]
      exact (if_pos h1).trans (Ideal.ofBits_zero .f32)
    · rw [if_neg (by omega)]
      exact (if_neg h1).trans e
  · rw [if_neg h0, if_neg (by omega)]
    exact e

end Cert.Value
-- ==== Proof.ReferenceValue.lean ====
/-
  What the reference leaves, over the reals: the same table.
-/
module

public import proofs.«01_k».proof.Proof.Encoding
public import proofs.«01_k».proof.Proof.Gen.ReferenceIdeal.Run
public import Idealize.ShloMosaic.Lib.Affine

@[expose] public section

noncomputable section

namespace Cert.Value

open Idealize.ShloMosaic Cert.ReferenceIdeal Cert.ReferenceIdeal.Gen Cert.ReferenceIdeal.Value

/-- A position is not negative, so it is not wrapped. -/
theorem wrap (p : Fin 4096) (x : BitVec 32) :
    Scalar.select (IntOp.cmpi CmpIPredicate.slt (BitVec.ofNat 32 p.val) 0#32) x (BitVec.ofNat 32 p.val) = BitVec.ofNat 32 p.val := by
  have h : ¬ IntOp.cmpi CmpIPredicate.slt (BitVec.ofNat 32 p.val) 0#32 = 1#1 := by
    rw [IntOp.cmpi_slt, toInt_nat _ (by omega)]
    simp
  exact if_neg h

/-- Every position is inside the table. -/
theorem inside (p : Fin 4096) :
    IntOp.andi (IntOp.cmpi CmpIPredicate.sge (BitVec.ofNat 32 p.val) 0#32) (IntOp.cmpi CmpIPredicate.sle (BitVec.ofNat 32 p.val) 4095#32) = 1#1 := by
  have h0 : IntOp.cmpi CmpIPredicate.sge (BitVec.ofNat 32 p.val) 0#32 = 1#1 := by
    rw [IntOp.cmpi_sge, toInt_nat p.val (by omega), show (0#32 : BitVec 32).toInt = 0 from rfl]; omega
  have h1 : IntOp.cmpi CmpIPredicate.sle (BitVec.ofNat 32 p.val) 4095#32 = 1#1 := by
    rw [IntOp.cmpi_sle, toInt_nat _ (by omega), show (4095#32 : BitVec 32).toInt = 4095 from rfl]; omega
  rw [h0, h1]; rfl

/-- Rows taken from the table: entry `(b, p, c)` is the table's at the row the indices name and column `c`. -/
theorem take_apply (x : S4096x1024.Idx → EReal) (idx : IVec S4x4096x1 32) (b : Fin 4) (p : Fin 4096) (c : Fin 1024)
    (hp : idx (ix3 b p (0 : Fin 1)) = BitVec.ofNat 32 p.val) :
    Host.gather gather_S4096x1024_S4x4096x1_S4x4096x1024_2_0_n_n_0_2_11024 x idx (ix3 b p c) = x (ix2 p c) := by
  unfold Host.gather
  refine congrArg x (funext fun a => Fin.ext ?_)
  match a with
  | ⟨0, _⟩ =>
    have hs : (gather_S4096x1024_S4x4096x1_S4x4096x1024_2_0_n_n_0_2_11024).siIdx (ix3 b p c) ⟨0, by decide⟩ = ix3 b p (0 : Fin 1) := by
      funext a'
      match a' with
      | ⟨0, _⟩ => rfl
      | ⟨1, _⟩ => rfl
      | ⟨2, _⟩ => rfl
    show min (idx ((gather_S4096x1024_S4x4096x1_S4x4096x1024_2_0_n_n_0_2_11024).siIdx (ix3 b p c) ⟨0, _⟩)).toInt.toNat (4096 - 1) + 0 + 0 = p.val
    rw [hs, hp, toInt_nat _ (by omega)]
    omega
  | ⟨1, _⟩ =>
    show 0 + 0 + c.val = c.val
    omega

/-- The reference's quotient is the kernel's product: dividing by `10000` to the power `2c/1024` is multiplying by the
    frequency. -/
theorem angle (p c : Nat) : (p : ℝ) * (1 / Real.rpow 10000 (2 * c * (1 / 1024))) = p * freq c := by
  unfold freq
  have h : Real.rpow 10000 (2 * c * (1 / 1024)) = Real.exp (Real.log 10000 * (2 * c * (1 / 1024))) :=
    Real.rpow_def_of_pos (by norm_num) _
  rw [h, one_div, ← Real.exp_neg]
  congr 2
  ring

/-- Every entry of the reference's result. -/
theorem reference_value (m : (ℓ : Loc nD τ sig) → Buf (Elt Ideal) ℓ) (cd : Dev nD) (b : Fin 4) (p : Fin 4096) (c : Fin 1024) :
    res_main_v32 (F := Ideal) m cd (ix3 b p c) = table p.val c.val := by
  pointwise [res_main_v32]
  simp only [wrap, inside]
  rw [take_apply _ _ b p c (by pointwise []; exact wrap p _)]
  pointwise []
  have ef : Finset.fold IntOp.andi (1#1) (fun _ : Fin 1 => 1#1) Finset.univ = 1#1 := by decide
  have hpow : Real.rpow 10000 (2 * (c.val : ℝ) * (1 / 1024)) ≠ 0 := (Real.rpow_pos_of_pos (by norm_num) _).ne'
  rw [ef, thirtyTwo]
  show (if h : p.val < 1 then (0 : EReal) else _) * _ = _
  unfold table
  by_cases h0 : p.val = 0
  · rw [dif_pos (by omega), if_pos h0, zero_mul]
  · rw [dif_neg (by omega), if_neg h0, select_even _ (by omega), sitofp_nat (1 + (p.val - 1)) (by omega), sitofp_nat c.val (by omega),
      show 1 + (p.val - 1) = p.val by omega, base, two, units, ← EReal.coe_mul, Ideal.div_coe (by norm_num), ← EReal.coe_mul,
      Ideal.pow_coe_coe, Ideal.div_coe hpow, ← EReal.coe_mul, angle, Ideal.sin_coe, Ideal.cos_coe]
    unfold enc
    split <;> rw [← EReal.coe_mul]

end Cert.Value
-- ==== Proof.Algebraic.lean ====
/-
  Over the reals the kernel and the reference end with equal results.
-/
module

public import proofs.«01_k».proof.Proof.KernelValue
public import proofs.«01_k».proof.Proof.ReferenceValue

@[expose] public section

noncomputable section

namespace Cert.Value

open Idealize.ShloMosaic Idealize.SL.Sem
open Cert.KernelIdeal.Hand (outOf tileX)

/-- The kernel's result and the reference's are the same array: both are the encoded table at every index. -/
theorem results_eq (m : (ℓ : Loc Cert.ReferenceIdeal.nD Cert.ReferenceIdeal.τ Cert.ReferenceIdeal.sig) → Buf (Elt Ideal) ℓ)
    (c : Dev Cert.KernelIdeal.nD) : Cert.ReferenceIdeal.Value.res_main_v32 (F := Ideal) m c = outOf (F := Ideal) c tileX := by
  funext (z : Cert.KernelIdeal.S4x4096x1024.Idx)
  have hz : z = ix3 (n0 := 4) (n1 := 4096) (n2 := 1024) (z 0) (z 1) (z 2) := by
    funext a
    match a with
    | ⟨0, _⟩ => rfl
    | ⟨1, _⟩ => rfl
    | ⟨2, _⟩ => rfl
  rw [hz]
  exact (reference_value m c (z 0) (z 1) (z 2)).trans (kernel_value c (z 0) (z 1) (z 2)).symm

/-- From memories that agree on the argument both programs run, end with equal results and leave the argument alone. -/
theorem algebraic_PI_RI : Cert.algebraic_KernelIdeal_ReferenceIdeal := fun m ρ m' ρ' _ _ =>
  ⟨fun c => outOf c tileX,
    (θ_run Cert.KernelIdeal.defs _ _).mono (fun _ h => h.1) (Cert.KernelIdeal.Hand.run_main (F := Ideal) m ρ),
    (θ_run Cert.ReferenceIdeal.defs _ _).mono (fun _ h c => ⟨(h c).1.trans (results_eq m' c), (h c).2⟩)
      (Cert.ReferenceIdeal.Value.run (F := Ideal) m' ρ')⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem Cert.Kernel

/-- All five claims: the three frames, what the exact form changed, and the equality of the results over the reals. -/
theorem claim : Cert.Claim := ⟨Cert.Kernel.Gen.facts, Cert.KernelIdeal.Gen.facts, Cert.ReferenceIdeal.Gen.facts,
  Cert.Frames.frame_P, Cert.Frames.frame_PI, Cert.Frames.frame_RI, Cert.Frames.preserves_P_PI, Cert.Value.algebraic_PI_RI⟩

end Cert.Proof

end
